-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x16x2048x64 : Shape := ⟨4, ![1, 16, 2048, 64]⟩
abbrev S44x16 : Shape := ⟨2, ![44, 16]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel
  bcast_S_S44x16 : S_.BroadcastsInDim S44x16 (![] : Fin 0 → Fin S44x16.rank)
  reducesTo_S44x16_S_d0_1 : S44x16.ReducesTo [0, 1] S_

variable [Facts]

def fn {F : FTy → Type} [FloatOps F] (main_arg0 : FVec F S1x16x2048x64 .f32) (main_arg1 : FVec F S1x16x2048x64 .f32) (main_arg2 : FVec F S1x16x2048x64 .f32) (main_arg3 : FVec F S44x16 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S44x16 .f32 := Host.absf main_arg3
  let main_cst_2 : FVec F S_ .f32 := constant S_ .f32 0x7F800000#32
  let main_v10 : FVec F S44x16 .f32 := broadcastInDim S44x16 ![] bcast_S_S44x16 main_cst_2
  let main_v11 : IVec S44x16 1 := cmpf .olt main_v9 main_v10
  let main_c_3 : IVec S_ 1 := constantI S_ 1 1#1
  let main_v12 : IVec S_ 1 := (fun x v => Host.reduce IntOp.andi x v reducesTo_S44x16_S_d0_1 h_S_) main_v11 main_c_3
  let main_v13 : IVec S_ 1 := andi main_v8 main_v12
  main_v13
-- ==== Kernel.lean ====
abbrev S1x16x2048x64 : Shape := ⟨4, ![1, 16, 2048, 64]⟩
abbrev S44x16 : Shape := ⟨2, ![44, 16]⟩
abbrev S16x44 : Shape := ⟨2, ![16, 44]⟩
abbrev S_ : Shape := ⟨0, ![]⟩
abbrev S16x48 : Shape := ⟨2, ![16, 48]⟩
abbrev S16x1x48 : Shape := ⟨3, ![16, 1, 48]⟩
abbrev S1x1x48 : Shape := ⟨3, ![1, 1, 48]⟩
abbrev S1x1x2048x64 : Shape := ⟨4, ![1, 1, 2048, 64]⟩
abbrev S128x256 : Shape := ⟨2, ![128, 256]⟩
abbrev S1x48 : Shape := ⟨2, ![1, 48]⟩
abbrev S1x1 : Shape := ⟨2, ![1, 1]⟩
abbrev S128x1 : Shape := ⟨2, ![128, 1]⟩
abbrev S1x2048x64 : Shape := ⟨3, ![1, 2048, 64]⟩
abbrev S1x128x64 : Shape := ⟨3, ![1, 128, 64]⟩
abbrev S128x64 : Shape := ⟨2, ![128, 64]⟩
abbrev S256x64 : Shape := ⟨2, ![256, 64]⟩
abbrev S128 : Shape := ⟨1, ![128]⟩
abbrev S1x256x64 : Shape := ⟨3, ![1, 256, 64]⟩
abbrev S1x64x64 : Shape := ⟨3, ![1, 64, 64]⟩
abbrev S64x64 : Shape := ⟨2, ![64, 64]⟩

abbrev nBuf : Space → Nat
  | .hbm => 11
  | .vmem => 8
  | .smem => 2
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S44x16, .f32⟩
  | .hbm, ⟨4, _⟩ => ⟨S44x16, .f32⟩
  | .hbm, ⟨5, _⟩ => ⟨S16x44, .f32⟩
  | .hbm, ⟨6, _⟩ => ⟨S_, .i32⟩
  | .hbm, ⟨7, _⟩ => ⟨S_, .f32⟩
  | .hbm, ⟨8, _⟩ => ⟨S16x48, .f32⟩
  | .hbm, ⟨9, _⟩ => ⟨S16x1x48, .f32⟩
  | .hbm, ⟨10, _⟩ => ⟨S1x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .smem, ⟨0, _⟩ => ⟨S1x1x48, .f32⟩
  | .local _ .smem, ⟨1, _⟩ => ⟨S1x1x48, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .smem S1x1x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x16x2048x64 : Shape := ⟨4, ![1, 16, 2048, 64]⟩
abbrev S44x16 : Shape := ⟨2, ![44, 16]⟩
abbrev S44 : Shape := ⟨1, ![44]⟩
abbrev S2048 : Shape := ⟨1, ![2048]⟩
abbrev S1x2048 : Shape := ⟨2, ![1, 2048]⟩
abbrev S44x1 : Shape := ⟨2, ![44, 1]⟩
abbrev S44x2048 : Shape := ⟨2, ![44, 2048]⟩
abbrev S_ : Shape := ⟨0, ![]⟩
abbrev S44x2048x1 : Shape := ⟨3, ![44, 2048, 1]⟩
abbrev S1x16x44x2048x64 : Shape := ⟨5, ![1, 16, 44, 2048, 64]⟩
abbrev S1x16x2048x44 : Shape := ⟨4, ![1, 16, 2048, 44]⟩
abbrev S1x16x44x2048 : Shape := ⟨4, ![1, 16, 44, 2048]⟩
abbrev S16x44 : Shape := ⟨2, ![16, 44]⟩
abbrev S1x16x44x1 : Shape := ⟨4, ![1, 16, 44, 1]⟩
abbrev S1x1x44x2048 : Shape := ⟨4, ![1, 1, 44, 2048]⟩
abbrev S1x16x2048 : Shape := ⟨3, ![1, 16, 2048]⟩
abbrev S1x16x1x2048 : Shape := ⟨4, ![1, 16, 1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S44x16, .f32⟩
  | .hbm, ⟨4, _⟩ => ⟨S44, .i32⟩
  | .hbm, ⟨5, _⟩ => ⟨S2048, .i32⟩
  | .hbm, ⟨6, _⟩ => ⟨S1x2048, .i32⟩
  | .hbm, ⟨7, _⟩ => ⟨S44x1, .i32⟩
  | .hbm, ⟨8, _⟩ => ⟨S44x2048, .i32⟩
  | .hbm, ⟨9, _⟩ => ⟨S44x2048, .i32⟩
  | .hbm, ⟨10, _⟩ => ⟨S44x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S44x2048, .i32⟩
  | .hbm, ⟨15, _⟩ => ⟨S44x2048, .i32⟩
  | .hbm, ⟨16, _⟩ => ⟨S_, .i32⟩
  | .hbm, ⟨17, _⟩ => ⟨S44x2048, .i32⟩
  | .hbm, ⟨18, _⟩ => ⟨S44x2048, .i32⟩
  | .hbm, ⟨19, _⟩ => ⟨S_, .i32⟩
  | .hbm, ⟨20, _⟩ => ⟨S44x2048, .i32⟩
  | .hbm, ⟨21, _⟩ => ⟨S44x2048, .i1⟩
  | .hbm, ⟨22, _⟩ => ⟨S_, .i32⟩
  | .hbm, ⟨23, _⟩ => ⟨S44x2048, .i32⟩
  | .hbm, ⟨24, _⟩ => ⟨S44x2048, .i1⟩
  | .hbm, ⟨25, _⟩ => ⟨S_, .i32⟩
  | .hbm, ⟨26, _⟩ => ⟨S44x2048, .i32⟩
  | .hbm, ⟨27, _⟩ => ⟨S44x2048, .i32⟩
  | .hbm, ⟨28, _⟩ => ⟨S44x2048, .i32⟩
  | .hbm, ⟨29, _⟩ => ⟨S44x2048x1, .i32⟩
  | .hbm, ⟨30, _⟩ => ⟨S1x16x44x2048x64, .f32⟩
  | .hbm, ⟨31, _⟩ => ⟨S1x16x2048x44, .f32⟩
  | .hbm, ⟨32, _⟩ => ⟨S1x16x44x2048, .f32⟩
  | .hbm, ⟨33, _⟩ => ⟨S_, .f32⟩
  | .hbm, ⟨34, _⟩ => ⟨S1x16x44x2048, .f32⟩
  | .hbm, ⟨35, _⟩ => ⟨S1x16x44x2048, .f32⟩
  | .hbm, ⟨36, _⟩ => ⟨S16x44, .f32⟩
  | .hbm, ⟨37, _⟩ => ⟨S1x16x44x1, .f32⟩
  | .hbm, ⟨38, _⟩ => ⟨S1x16x44x2048, .f32⟩
  | .hbm, ⟨39, _⟩ => ⟨S1x16x44x2048, .f32⟩
  | .hbm, ⟨40, _⟩ => ⟨S1x1x44x2048, .i1⟩
  | .hbm, ⟨41, _⟩ => ⟨S_, .f32⟩
  | .hbm, ⟨42, _⟩ => ⟨S_, .f32⟩
  | .hbm, ⟨43, _⟩ => ⟨S1x16x44x2048, .i1⟩
  | .hbm, ⟨44, _⟩ => ⟨S1x16x44x2048, .f32⟩
  | .hbm, ⟨45, _⟩ => ⟨S1x16x44x2048, .f32⟩
  | .hbm, ⟨46, _⟩ => ⟨S_, .f32⟩
  | .hbm, ⟨47, _⟩ => ⟨S1x16x2048, .f32⟩
  | .hbm, ⟨48, _⟩ => ⟨S1x16x1x2048, .f32⟩
  | .hbm, ⟨49, _⟩ => ⟨S1x16x44x2048, .f32⟩
  | .hbm, ⟨50, _⟩ => ⟨S1x16x44x2048, .f32⟩
  | .hbm, ⟨51, _⟩ => ⟨S1x16x44x2048, .f32⟩
  | .hbm, ⟨52, _⟩ => ⟨S_, .f32⟩
  | .hbm, ⟨53, _⟩ => ⟨S1x16x2048, .f32⟩
  | .hbm, ⟨54, _⟩ => ⟨S1x16x2048, .f32⟩
  | .hbm, ⟨55, _⟩ => ⟨S1x16x2048, .f32⟩
  | .hbm, ⟨56, _⟩ => ⟨S1x16x1x2048, .f32⟩
  | .hbm, ⟨57, _⟩ => ⟨S1x16x44x2048, .f32⟩
  | .hbm, ⟨58, _⟩ => ⟨S1x16x44x2048, .f32⟩
  | .hbm, ⟨59, _⟩ => ⟨S1x16x44x2048, .f32⟩
  | .hbm, ⟨60, _⟩ => ⟨S_, .i32⟩
  | .hbm, ⟨61, _⟩ => ⟨S44x2048, .i32⟩
  | .hbm, ⟨62, _⟩ => ⟨S44x2048, .i1⟩
  | .hbm, ⟨63, _⟩ => ⟨S_, .i32⟩
  | .hbm, ⟨64, _⟩ => ⟨S44x2048, .i32⟩
  | .hbm, ⟨65, _⟩ => ⟨S44x2048, .i32⟩
  | .hbm, ⟨66, _⟩ => ⟨S44x2048, .i32⟩
  | .hbm, ⟨67, _⟩ => ⟨S44x2048x1, .i32⟩
  | .hbm, ⟨68, _⟩ => ⟨S1x16x44x2048x64, .f32⟩
  | .hbm, ⟨69, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.KernelRun.lean ====
/- The kernel's run: it ends, leaves its arguments alone and every counter at zero. -/
module

public import proofs.«01_k».proof.Proof.Gen.Kernel.Frame.RunA
public import Idealize.ShloMosaic.Lib.Claim

@[expose] public section

set_option maxRecDepth 16384

noncomputable section

namespace Cert.Kernel.Run

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of a head's run, 16 tiles of 128 rows, cover its whole block of results. -/
theorem cover0_A_4 (c : Dev nD) (i : grid0.Coords) (arg1 : Memref sig .tc .smem S1x1x48 .f32) (harg1 : arg1.IsWhole) (arg2 : Memref sig .tc .vmem S1x1x2048x64 .f32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole)
    (x0 : Vec F S1x1x48 .f32) (x1 : Vec F S1x1x2048x64 .f32) (x2 : Vec F S1x1x2048x64 .f32) (x3 : Vec F S1x1x2048x64 .f32) (y : S1x1x2048x64.Idx) :
    ∃ pc ∈ (kernelRun0_A c i arg1 harg1 arg2 harg2 arg3 harg3 arg4 harg4 arg5 harg5 x0 x1 x2 x3).1, y ∈ pc.1.set :=
  View.cover_of_tiledL (kernelRun0_A c i arg1 harg1 arg2 harg2 arg3 harg3 arg4 harg4 arg5 harg5 x0 x1 x2 x3).1 ![1, 1, 128, 64] (by sl_kernel_rfl) y

/-- The block of results that a head's run leaves: its stores, read back. -/
def out0_A_4 (c : Dev nD) (i : grid0.Coords) (arg1 : Memref sig .tc .smem S1x1x48 .f32) (harg1 : arg1.IsWhole) (arg2 : Memref sig .tc .vmem S1x1x2048x64 .f32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole)
    (x0 : Vec F S1x1x48 .f32) (x1 : Vec F S1x1x2048x64 .f32) (x2 : Vec F S1x1x2048x64 .f32) (x3 : Vec F S1x1x2048x64 .f32) : Vec F S1x1x2048x64 .f32 :=
  VO0_4.read (Elt F) (VO0_4.writes (Elt F) VO0_4.junk (kernelRun0_A c i arg1 harg1 arg2 harg2 arg3 harg3 arg4 harg4 arg5 harg5 x0 x1 x2 x3).1)

/-! ## What the outputs hold after each point -/

/-- The block of results after the body at grid point `t`, from the blocks staged there. -/
def outsAt0 (c : Dev nD) (t : Fin cfg0.N) : Vec F S1x1x2048x64 .f32 :=
  out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)

/-! ## The data of the pipeline's proof -/

/-- The data of the pipeline's proof: the arrays at the start; after the body at point `t` each input's buffer still at its
    block and the results' at `outsAt0`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The arrays at the start are those after the host's lines. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's buffer holds its block whenever the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body is given at point `t`: the five buffers, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: from the staged blocks it leaves the inputs as they are and the results at `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body of the program's table at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends, with the pipeline's arrays as the data say, every other buffer as it was, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the pipeline's arrays as the data say and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the four arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends with the four arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Run

end
-- ==== Proof.IdealRun.lean ====
/- The idealized kernel's run: it ends, leaves its arguments alone and every counter at zero, and the array of results is put
   together from the blocks that the 16 grid points, one per head, leave. -/
module

public import proofs.«01_k».proof.Proof.Gen.KernelIdeal.Frame.RunA
public import Idealize.ShloMosaic.Lib.Claim
public import Idealize.ShloMosaic.Lib.Pipeline.Value

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The stores of a head's run, 16 tiles of 128 rows, cover its whole block of results. -/
theorem cover0_A_4 (c : Dev nD) (i : grid0.Coords) (arg1 : Memref sig .tc .smem S1x1x48 .f32) (harg1 : arg1.IsWhole) (arg2 : Memref sig .tc .vmem S1x1x2048x64 .f32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole)
    (x0 : Vec F S1x1x48 .f32) (x1 : Vec F S1x1x2048x64 .f32) (x2 : Vec F S1x1x2048x64 .f32) (x3 : Vec F S1x1x2048x64 .f32) (y : S1x1x2048x64.Idx) :
    ∃ pc ∈ (kernelRun0_A c i arg1 harg1 arg2 harg2 arg3 harg3 arg4 harg4 arg5 harg5 x0 x1 x2 x3).1, y ∈ pc.1.set :=
  View.cover_of_tiledL (kernelRun0_A c i arg1 harg1 arg2 harg2 arg3 harg3 arg4 harg4 arg5 harg5 x0 x1 x2 x3).1 ![1, 1, 128, 64] (by sl_kernel_rfl) y

/-- The block of results that a head's run leaves: its stores, read back. -/
def out0_A_4 (c : Dev nD) (i : grid0.Coords) (arg1 : Memref sig .tc .smem S1x1x48 .f32) (harg1 : arg1.IsWhole) (arg2 : Memref sig .tc .vmem S1x1x2048x64 .f32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole)
    (x0 : Vec F S1x1x48 .f32) (x1 : Vec F S1x1x2048x64 .f32) (x2 : Vec F S1x1x2048x64 .f32) (x3 : Vec F S1x1x2048x64 .f32) : Vec F S1x1x2048x64 .f32 :=
  VO0_4.read (Elt F) (VO0_4.writes (Elt F) VO0_4.junk (kernelRun0_A c i arg1 harg1 arg2 harg2 arg3 harg3 arg4 harg4 arg5 harg5 x0 x1 x2 x3).1)

/-! ## What the outputs hold after each point -/

/-- The block of results after the body at grid point `t`, from the blocks staged there. -/
def outsAt0 (c : Dev nD) (t : Fin cfg0.N) : Vec F S1x1x2048x64 .f32 :=
  out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)

/-! ## The data of the pipeline's proof -/

/-- The data of the pipeline's proof: the arrays at the start; after the body at point `t` each input's buffer still at its
    block and the results' at `outsAt0`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The arrays at the start are those after the host's lines. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's buffer holds its block whenever the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body is given at point `t`: the five buffers, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: from the staged blocks it leaves the inputs as they are and the results at `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body of the program's table at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends, with the pipeline's arrays as the data say, every other buffer as it was, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the pipeline's arrays as the data say and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the four arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends with the four arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The arrays after the run -/

/-- The array of results after the run. -/
theorem post4 (r : PUnit × MemSt nD τ sig (Elt F)) (h : Pipeline.FramePost cfgs (dats m) 0 (V m) r) (c : Dev nD) :
    r.2.mem ((c : Thread nD τ).loc main_v4) = (dats m 0 c).arrAt 4 cfg0.N :=
  (h c).1 4

/-- The queries end as they were: the pipeline reads them only. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- The keys end as they were: the pipeline reads them only. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- The values end as they were: the pipeline reads them only. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- The biases end as they were: the pipeline reads a copy made by the host. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Every run ends with the results at `(dats m 0 c).arrAt 4 cfg0.N` and the four arguments as they were. -/
theorem run_blocks : θ_run defs (onTc (τ := τ) (main (F := F))) ⟨m, fun _ => 0, ρ⟩ fun r => ∀ c : Dev nD,
      r.2.mem ((c : Thread nD τ).loc main_v4) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.KernelIdeal.Run

end
-- ==== Proof.Host.lean ====
/- The reference's run: it ends, leaves its arguments alone and every counter at zero. -/
module

public import proofs.«01_k».proof.Defs
public import proofs.«01_k».proof.Proof.Gen.ReferenceIdeal.Run
public import Idealize.ShloMosaic.Lib.Quiescent

@[expose] public section

noncomputable section

namespace Cert.Attn

open Idealize.ShloMosaic Idealize.SL.Sem Cert.ReferenceIdeal

/-- Every run of the reference ends with its four arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m g)

end Cert.Attn

end
-- ==== Proof.Tile.lean ====
/- What one run of the kernel's body computes, written once.

   The body works on one head: it builds a band of weights from the head's 37 smallest offsets and then treats the
   2048 rows sixteen tiles of 128 rows at a time.  A tile scores its rows against a window of 256 keys (`scoreBand`),
   adds the rows at the larger offsets one offset at a time (`Strided`), and divides a weighted sum of values by the
   sum of the weights (`tile`).  The sixteen tiles differ only in which larger offsets have begun, so the same
   functions describe all of them; `Stores.lean` says that they are what the body stores. -/
module

public import proofs.«01_k».proof.Proof.Gen.KernelIdeal.Frame.RunA

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]

/-! ## Reading the staged blocks -/

/-- The rectangle `[0, o .. o + n, 0 .. 64]` lies in a head's block of 2048 rows. -/
theorem rows_inb {o n : ℕ} (h : o + n ≤ 2048) (a : Fin 3) : (![0, o, 0] : Fin 3 → ℕ) a + (![1, n, 64] : Fin 3 → ℕ) a ≤ S1x2048x64.size a := by
  fin_cases a
  · show 0 + 1 ≤ 1; omega
  · exact h
  · show 0 + 64 ≤ 64; omega

/-- The whole block lies in itself. -/
theorem block_inb (a : Fin 4) : (![0, 0, 0, 0] : Fin 4 → ℕ) a + S1x1x2048x64.size a ≤ S1x1x2048x64.size a := by
  fin_cases a <;> exact le_of_eq (Nat.zero_add _)

/-- The rectangle of rows `o .. o + n` of a head's block, in the block's own four coordinates. -/
def rowsRect (n o : ℕ) (h : o + n ≤ 2048) : LoadRect S1x1x2048x64 :=
  (Rect.unit (s := S1x1x2048x64) ![0, 0, 0, 0] S1x1x2048x64.size block_inb).withinL
    ((Rect.unit (s := S1x2048x64) ![0, o, 0] ![1, n, 64] (rows_inb h)).toLoadRect.consLift ![1, 1, 2048, 64] rfl (fun _ => rfl))
    (fun _ => rfl)

/-- Rows `o .. o + n` of the block `x` staged in `a`, as a load of them returns them. -/
def load (a : Memref sig .tc .vmem S1x1x2048x64 .f32) (ha : a.IsWhole) (x : Vec F S1x1x2048x64 .f32) (n o : ℕ)
    (h : o + n ≤ 2048) : Vec F ⟨3, ![1, n, 64]⟩ .f32 :=
  LoadRect.valAlong (lr := (Rect.unit (s := S1x2048x64) ![0, o, 0] ![1, n, 64] (rows_inb h)).toLoadRect)
    (LR := rowsRect n o h) (LoadRect.numel_consLift (Rect.unit (s := S1x2048x64) ![0, o, 0] ![1, n, 64] (rows_inb h)).toLoadRect ![1, 1, 2048, 64] rfl (fun _ => rfl))
    (View.readAt (Elt F) a.view (rowsRect n o h) (ha.unread x))

/-- Entry `i` of a row of 48 lies in it. -/
theorem word_inb (i : Fin 48) (a : Fin 2) : (![0, i.val] : Fin 2 → ℕ) a + S1x1.size a ≤ S1x48.size a := by
  fin_cases a
  · show 0 + 1 ≤ 1; omega
  · show i.val + 1 ≤ 48; omega

/-- The whole row of 48 lies in itself. -/
theorem wordRow_inb (a : Fin 3) : (![0, 0, 0] : Fin 3 → ℕ) a + S1x1x48.size a ≤ S1x1x48.size a := by
  fin_cases a <;> exact le_of_eq (Nat.zero_add _)

/-- The rectangle of entry `i` of the staged row of 48, in the block's own three coordinates. -/
def wordRect (i : Fin 48) : LoadRect S1x1x48 :=
  (Rect.unit (s := S1x1x48) ![0, 0, 0] S1x1x48.size wordRow_inb).withinL
    ((Rect.unit (s := S1x48) ![0, i.val] S1x1.size (word_inb i)).toLoadRect.consLift ![1, 1, 48] rfl (fun _ => rfl))
    (fun _ => rfl)

/-- Entry `i` of the row of 48 staged in `a`. -/
def word (a : Memref sig .tc .smem S1x1x48 .f32) (ha : a.IsWhole) (x : Vec F S1x1x48 .f32) (i : Fin 48) : Elt F .f32 :=
  LoadRect.valAlong (lr := (Rect.unit (s := S1x48) ![0, i.val] S1x1.size (word_inb i)).toLoadRect)
    (LR := wordRect i) (LoadRect.numel_consLift (Rect.unit (s := S1x48) ![0, i.val] S1x1.size (word_inb i)).toLoadRect ![1, 1, 48] rfl (fun _ => rfl))
    (View.readAt (Elt F) a.view (wordRect i) (ha.unread x)) (Shape.Idx.first (s := S1x1) (by decide))

/-! ## The offsets -/

/-- The 37 offsets that the window of 256 keys covers. -/
def near : Fin 37 → ℕ :=
  ![0, 1, 2, 3, 4, 5, 6, 7, 8, 9, 10, 11, 12, 13, 14, 15, 16, 17, 18, 19, 20, 21, 22, 23, 24, 25, 26, 27, 28, 29, 30, 31, 32, 48, 64,
    96, 128]

/-- The 7 larger offsets. -/
def far : Fin 7 → ℕ := ![192, 256, 384, 512, 768, 1024, 1536]

/-! ## The band of weights -/

/-- How far before row `r` of a tile the window's column `c` lies: `r + 128 - c`. -/
def dist : IVec S128x256 32 :=
  subi (addi (iota .tc S128x256 32 [0] iota_S128x256_d0_w32) (broadcast S128x256 128#32)) (iota .tc S128x256 32 [1] iota_S128x256_d1_w32)

/-- The band over a list of offsets: at distance `o` the weight listed with `o` (the last one, if several are), elsewhere
    the weight `w` started with. -/
def bandOver (w : FVec F S128x256 .f32) : List (ℕ × Elt F .f32) → FVec F S128x256 .f32
  | [] => w
  | (o, e) :: l => bandOver (select (cmpi .eq dist (broadcast S128x256 (BitVec.ofNat 32 o))) (broadcast S128x256 e) w) l

/-- The band of the 37 offsets with the weights `e`. -/
def band (e : Fin 48 → Elt F .f32) : FVec F S128x256 .f32 :=
  bandOver (broadcast S128x256 (Scalar.ofBits .f32 0x00000000#32))
    [(0, e 0), (1, e 1), (2, e 2), (3, e 3), (4, e 4), (5, e 5), (6, e 6), (7, e 7), (8, e 8), (9, e 9), (10, e 10), (11, e 11),
     (12, e 12), (13, e 13), (14, e 14), (15, e 15), (16, e 16), (17, e 17), (18, e 18), (19, e 19), (20, e 20), (21, e 21),
     (22, e 22), (23, e 23), (24, e 24), (25, e 25), (26, e 26), (27, e 27), (28, e 28), (29, e 29), (30, e 30), (31, e 31),
     (32, e 32), (48, e 33), (64, e 34), (96, e 35), (128, e 36)]

/-- Where the band is positive. -/
def inBand (w : FVec F S128x256 .f32) : IVec S128x256 1 :=
  cmpf .ogt w (broadcast S128x256 (Scalar.ofBits .f32 0x00000000#32))

/-- … and, in the first tile, the column is one of the second half: a row of the block itself, not one before it. -/
def inFirstBand (w : FVec F S128x256 .f32) : IVec S128x256 1 :=
  andi (inBand w) (cmpi .sge (iota .tc S128x256 32 [1] iota_S128x256_d1_w32) (broadcast S128x256 128#32))

/-! ## One tile -/

/-- The value a masked score takes. -/
def masked : F .f32 := Named.named κ "mask" 0xF149F2CA#32

/-- A tile's queries, scaled by one eighth. -/
def queries (x : Vec F S1x128x64 .f32) : FVec F S128x64 .f32 :=
  mulf (shapeCast S128x64 x shapeCasts_S1x128x64_S128x64) (broadcast S128x64 (Scalar.ofBits .f32 0x3E000000#32))

/-- A window's 256 rows. -/
def window (x : Vec F S1x256x64 .f32) : FVec F S256x64 .f32 := shapeCast S256x64 x shapeCasts_S1x256x64_S256x64

/-- The first tile's window: its 128 rows twice over. -/
def twice (x : Vec F S1x128x64 .f32) : FVec F S256x64 .f32 :=
  concatenate S256x64 0 [⟨S128x64, shapeCast S128x64 x shapeCasts_S1x128x64_S128x64⟩,
    ⟨S128x64, shapeCast S128x64 x shapeCasts_S1x128x64_S128x64⟩] concatenates_S128x64_S128x64_S256x64_d0

/-- The scores of a tile's queries against its window of keys, masked outside `ok`. -/
def scoreBand (ok : IVec S128x256 1) (q : FVec F S128x64 .f32) (k : FVec F S256x64 .f32) : FVec F S128x256 .f32 :=
  select ok (matmul dot_S128x64_S256x64_S128x256_1_1_0_0_n_n none q k (constant S128x256 .f32 0x00000000#32))
    (broadcast S128x256 masked)

/-- The greatest score of each row of the window. -/
def topBand (s : FVec F S128x256 .f32) : FVec F S128x1 .f32 :=
  shapeCast S128x1 (multiReduction .maximumf [1] S128 s 0xFF800000#32 reduces_S128x256_S128 (.inl rfl) rfl) shapeCasts_S128_S128x1

/-- The weights of a tile's window at the reference score `m`. -/
def weighBand (s w : FVec F S128x256 .f32) (m : FVec F S128x1 .f32) : FVec F S128x256 .f32 :=
  mulf (exp (subf s (broadcastTo S128x256 m broadcasts_S128x1_S128x256))) w

/-- One of the larger offsets at work in a tile: the scores of its rows, their weights at a reference score, their values. -/
structure Strided (F : FTy → Type) where
  score : FVec F S128x1 .f32
  weight : FVec F S128x1 .f32 → FVec F S128x1 .f32
  value : FVec F S128x64 .f32

/-- 128 rows of a block. -/
def rows (x : Vec F S1x128x64 .f32) : FVec F S128x64 .f32 := shapeCast S128x64 x shapeCasts_S1x128x64_S128x64

/-- 64 rows of a block, twice over. -/
def rowsTwice (x : Vec F S1x64x64 .f32) : FVec F S128x64 .f32 :=
  concatenate S128x64 0 [⟨S64x64, shapeCast S64x64 x shapeCasts_S1x64x64_S64x64⟩,
    ⟨S64x64, shapeCast S64x64 x shapeCasts_S1x64x64_S64x64⟩] concatenates_S64x64_S64x64_S128x64_d0

/-- The score of each row of queries against the same row of keys. -/
def scoreRows (q k : FVec F S128x64 .f32) : FVec F S128x1 .f32 :=
  shapeCast S128x1 (multiReduction .add [1] S128 (mulf q k) 0x00000000#32 reduces_S128x64_S128 (.inl rfl) rfl) shapeCasts_S128_S128x1

/-- The weights of the scores `s` at the reference score `m`, each multiplied by `e`. -/
def weighRows (s : FVec F S128x1 .f32) (e : Elt F .f32) (m : FVec F S128x1 .f32) : FVec F S128x1 .f32 :=
  mulf (exp (subf s m)) (broadcast S128x1 e)

/-- A larger offset that every row of the tile has reached. -/
def Strided.full (q k v : FVec F S128x64 .f32) (e : Elt F .f32) : Strided F where
  score := scoreRows q k
  weight := weighRows (scoreRows q k) e
  value := v

/-- The rows of a tile from the 64th on. -/
def lateRows : IVec S128x1 1 :=
  cmpi .sge (iota .tc S128x1 32 [0] iota_S128x1_d0_w32) (broadcast S128x1 64#32)

/-- A larger offset that only the second half of the tile's rows has reached. -/
def Strided.half (q k v : FVec F S128x64 .f32) (e : Elt F .f32) : Strided F where
  score := select lateRows (scoreRows q k) (broadcast S128x1 masked)
  weight m := select lateRows (weighRows (select lateRows (scoreRows q k) (broadcast S128x1 masked)) e m)
    (broadcast S128x1 (Scalar.ofBits .f32 0x00000000#32))
  value := v

/-- Neighbours joined by `f`, an odd one out kept. -/
def pairUp {α : Type} (f : α → α → α) : List α → List α
  | a :: b :: l => f a b :: pairUp f l
  | l => l

/-- A list joined by `f`, neighbours first, in at most `n` rounds; `z` for an empty list. -/
def join {α : Type} (f : α → α → α) (z : α) : ℕ → List α → α
  | _, [] => z
  | _, [a] => a
  | 0, a :: _ => a
  | n + 1, a :: b :: l => join f z n (pairUp f (a :: b :: l))

/-- The reference score of a tile: the greatest of its window's and its larger offsets'. -/
def top (s : FVec F S128x256 .f32) (l : List (Strided F)) : FVec F S128x1 .f32 :=
  join maximumf (topBand s) 3 (topBand s :: l.map Strided.score)

/-- The weighted sum of values of a tile at the reference score `m`. -/
def numer (s w : FVec F S128x256 .f32) (v : FVec F S256x64 .f32) (l : List (Strided F)) (m : FVec F S128x1 .f32) :
    FVec F S128x64 .f32 :=
  let n : FVec F S128x64 .f32 :=
    matmul dot_S128x256_S256x64_S128x64_1_0_0_1_n_n none (weighBand s w m) v (constant S128x64 .f32 0x00000000#32)
  join addf n 3 (n :: l.map fun x : Strided F => mulf (broadcastTo S128x64 (x.weight m) broadcasts_S128x1_S128x64) x.value)

/-- The sum of the weights of a tile at the reference score `m`. -/
def denom (s w : FVec F S128x256 .f32) (l : List (Strided F)) (m : FVec F S128x1 .f32) : FVec F S128x1 .f32 :=
  let n : FVec F S128x1 .f32 :=
    shapeCast S128x1 (multiReduction .add [1] S128 (weighBand s w m) 0x00000000#32 reduces_S128x256_S128 (.inl rfl) rfl)
      shapeCasts_S128_S128x1
  join addf n 3 (n :: l.map fun x : Strided F => x.weight m)

/-- What a tile stores. -/
def tile (s w : FVec F S128x256 .f32) (v : FVec F S256x64 .f32) (l : List (Strided F)) : FVec F S1x128x64 .f32 :=
  shapeCast S1x128x64 (divf (numer s w v l (top s l)) (broadcastTo S128x64 (denom s w l (top s l)) broadcasts_S128x1_S128x64))
    shapeCasts_S128x64_S1x128x64

end Cert.Attn

end
-- ==== Proof.Stores.lean ====
/- The sixteen stores of the kernel's body are the sixteen tiles of `Tile.lean`. -/
module

public import proofs.«01_k».proof.Proof.Tile

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Tactic

variable {F : FTy → Type} [FloatOps F] [Named F]

/-- How rows of a block are fetched: how many, from which row on. -/
abbrev Fetch (F : FTy → Type) : Type := (n o : ℕ) → o + n ≤ 2048 → Vec F ⟨3, ![1, n, 64]⟩ .f32

/-- The larger offsets some row of tile `t` has reached. -/
def begun : Fin 16 → List (Fin 7) :=
  ![[], [0], [0, 1], [0, 1, 2], [0, 1, 2, 3], [0, 1, 2, 3], [0, 1, 2, 3, 4], [0, 1, 2, 3, 4], [0, 1, 2, 3, 4, 5], [0, 1, 2, 3, 4, 5],
    [0, 1, 2, 3, 4, 5], [0, 1, 2, 3, 4, 5], [0, 1, 2, 3, 4, 5, 6], [0, 1, 2, 3, 4, 5, 6], [0, 1, 2, 3, 4, 5, 6], [0, 1, 2, 3, 4, 5, 6]]

section
variable (e : Fin 48 → Elt F .f32) (q k v : Fetch F)

/-- The queries of tile `t`. -/
def tileQueries (t : Fin 16) : FVec F S128x64 .f32 := queries (q 128 (128 * t.val) (by omega))

/-- The larger offset `j` in tile `t`, every row of which has reached it. -/
def stridedAt (t : Fin 16) (j : Fin 7) : Strided F :=
  Strided.full (tileQueries q t) (rows (k 128 (128 * t.val - far j) (by omega))) (rows (v 128 (128 * t.val - far j) (by omega)))
    (e ⟨37 + j.val, by omega⟩)

/-- The offset 192 in tile 1, whose rows reach it from the 64th on. -/
def stridedHalf : Strided F :=
  Strided.half (tileQueries q 1) (rowsTwice (k 64 0 (by omega))) (rowsTwice (v 64 0 (by omega))) (e 37)

/-- The larger offsets at work in tile `t`. -/
def stridedOf (t : Fin 16) : List (Strided F) :=
  (begun t).map fun j => if t.val = 1 then stridedHalf e q k v else stridedAt e q k v t j

/-- Tile `t`. -/
def tileAt (t : Fin 16) : FVec F S1x128x64 .f32 :=
  if t.val = 0 then
    tile (scoreBand (inFirstBand (band e)) (tileQueries q t) (twice (k 128 0 (by omega)))) (band e) (twice (v 128 0 (by omega))) []
  else
    tile (scoreBand (inBand (band e)) (tileQueries q t) (window (k 256 (128 * t.val - 128) (by omega)))) (band e)
      (window (v 256 (128 * t.val - 128) (by omega))) (stridedOf e q k v t)

end

/-- The rows of tile `t` in the head's block of results. -/
def tileRect (t : Fin 16) : Rect S1x1x2048x64 :=
  (Rect.unit (s := S1x1x2048x64) ![0, 0, 0, 0] S1x1x2048x64.size block_inb).within
    ((Rect.unit (s := S1x2048x64) ![0, 128 * t.val, 0] ![1, 128, 64] (rows_inb (by omega))).consLift ![1, 1, 2048, 64] rfl (fun _ => rfl))
    (fun _ => rfl)

/-- The store of `w` to the rows of tile `t`. -/
def store (t : Fin 16) (w : FVec F S1x128x64 .f32) : View.Piece (Elt F) S1x1x2048x64 .f32 :=
  ⟨tileRect t, Rect.payAlong (r := Rect.unit (s := S1x2048x64) ![0, 128 * t.val, 0] ![1, 128, 64] (rows_inb (by omega)))
    (R := tileRect t) (Rect.numel_consLift (Rect.unit (s := S1x2048x64) ![0, 128 * t.val, 0] ![1, 128, 64] (rows_inb (by omega)))
      ![1, 1, 2048, 64] rfl (fun _ => rfl)) w⟩

/-- What the body stores, the last store first: tile by tile `tileAt`, on the row of weights staged in the first memref and
    the rows staged in the next three. -/
theorem stores_eq (c : Dev nD) (i : grid0.Coords) (a1 : Memref sig .tc .smem S1x1x48 .f32) (h1 : a1.IsWhole)
    (a2 : Memref sig .tc .vmem S1x1x2048x64 .f32) (h2 : a2.IsWhole) (a3 : Memref sig .tc .vmem S1x1x2048x64 .f32) (h3 : a3.IsWhole)
    (a4 : Memref sig .tc .vmem S1x1x2048x64 .f32) (h4 : a4.IsWhole) (a5 : Memref sig .tc .vmem S1x1x2048x64 .f32) (h5 : a5.IsWhole)
    (x0 : Vec F S1x1x48 .f32) (x1 x2 x3 : Vec F S1x1x2048x64 .f32) :
    (kernelRun0_A c i a1 h1 a2 h2 a3 h3 a4 h4 a5 h5 x0 x1 x2 x3).1
      = [15, 14, 13, 12, 11, 10, 9, 8, 7, 6, 5, 4, 3, 2, 1, 0].map fun t : Fin 16 =>
          store t (tileAt (word a1 h1 x0) (load a2 h2 x1) (load a3 h3 x2) (load a4 h4 x3) t) := by
  sl_kernel_rfl

end Cert.Attn

end
-- ==== Proof.TileAt.lean ====
/- The entries of the vectors of `Tile.lean`, over the extended reals. -/
module

public import proofs.«01_k».proof.Proof.Stores
public import Idealize.ShloMosaic.Lib.Pointwise
public import Idealize.ShloMosaic.Lib.WholeRead
public import Idealize.ShloMosaic.Lib.Exec.Geometry

@[expose] public section

set_option maxRecDepth 16384

noncomputable section

namespace Cert.Attn

open Cert.KernelIdeal Cert.KernelIdeal.Gen Idealize.ShloMosaic Idealize.ShloMosaic.TcCoe Idealize.SL.Sem

/-! ## Constants -/

/-- The pattern of one eighth. -/
theorem ofBits_eighth : Ideal.ofBits .f32 0x3E000000#32 = ((1 / 8 : ℝ) : EReal) := by
  simp [Ideal.ofBits, Ideal.ieee, -EReal.coe_mul]; norm_num

/-- The pattern of minus infinity. -/
theorem ofBits_neg_inf : Ideal.ofBits .f32 0xFF800000#32 = ⊥ := by
  simp [Ideal.ofBits, Ideal.ieee]

/-- A masked score is `⊥`. -/
theorem masked_eq : (masked : Ideal .f32) = ⊥ := rfl

/-! ## Reading the staged blocks -/

/-- Row `r` of a load of rows is that row of the block. -/
theorem load_at (a : Memref sig .tc .vmem S1x1x2048x64 .f32) (ha : a.IsWhole) (x : Vec Ideal S1x1x2048x64 .f32) {n o : ℕ}
    (h : o + n ≤ 2048) (r : Fin n) (d : Fin 64) :
    load a ha x n o h (ix3 0 r d) = x (ix4 0 0 ⟨o + r.val, by omega⟩ d) := by
  show View.readAt (Elt Ideal) a.view (rowsRect n o h) (ha.unread x) (Shape.reshapeEquiv _ (ix3 0 r d)) = _
  rw [ha.readAt_unread]
  refine congrArg x ((congrArg (rowsRect n o h).idx (Shape.reshapeEquiv_cons_one (d := ![1, n, 64]) _ (ix3 0 r d))).trans ?_)
  funext b
  apply Fin.ext
  fin_cases b
  · rfl
  · rfl
  · show 0 + o + 1 * r.val = o + r.val
    omega
  · show 0 + 0 + 1 * d.val = d.val
    omega

/-- Entry `i` of the staged row of 48. -/
theorem word_at (a : Memref sig .tc .smem S1x1x48 .f32) (ha : a.IsWhole) (x : Vec Ideal S1x1x48 .f32) (i : Fin 48) :
    word a ha x i = x (ix3 0 0 i) := by
  show View.readAt (Elt Ideal) a.view (wordRect i) (ha.unread x) (Shape.reshapeEquiv _ (ix2 0 0)) = _
  rw [ha.readAt_unread]
  refine congrArg x ((congrArg (wordRect i).idx (Shape.reshapeEquiv_cons_one (d := ![1, 1]) _ (ix2 0 0))).trans ?_)
  funext b
  apply Fin.ext
  fin_cases b
  · rfl
  · rfl
  · show 0 + i.val + 1 * 0 = i.val
    omega

/-! ## Entries -/

/-- A tile of rows, its leading axis dropped. -/
theorem rows_at (x : Vec Ideal S1x128x64 .f32) (r : Fin 128) (d : Fin 64) : rows x (ix2 r d) = x (ix3 0 r d) := by
  pointwise [rows]

/-- The queries of a tile, scaled by one eighth. -/
theorem queries_at (x : Vec Ideal S1x128x64 .f32) (r : Fin 128) (d : Fin 64) :
    queries x (ix2 r d) = x (ix3 0 r d) * ((1 / 8 : ℝ) : EReal) := by
  rw [← ofBits_eighth]
  pointwise [queries]

/-- A window of 256 rows, its leading axis dropped. -/
theorem window_at (x : Vec Ideal S1x256x64 .f32) (r : Fin 256) (d : Fin 64) : window x (ix2 r d) = x (ix3 0 r d) := by
  pointwise [window]

/-- The second copy of the first tile's rows. -/
theorem twice_at (x : Vec Ideal S1x128x64 .f32) (c : Fin 256) (hc : 128 ≤ c.val) (d : Fin 64) :
    twice x (ix2 c d) = x (ix3 0 ⟨c.val - 128, by omega⟩ d) := by
  have h : ¬ c.val < 128 := by omega
  pointwise [twice]
  simp [h]

/-- The first copy of the first tile's rows. -/
theorem twice_at_first (x : Vec Ideal S1x128x64 .f32) (c : Fin 256) (hc : c.val < 128) (d : Fin 64) :
    twice x (ix2 c d) = x (ix3 0 ⟨c.val, hc⟩ d) := by
  pointwise [twice]
  simp [hc]

/-- The second copy of the 64 rows. -/
theorem rowsTwice_at (x : Vec Ideal S1x64x64 .f32) (r : Fin 128) (hr : 64 ≤ r.val) (d : Fin 64) :
    rowsTwice x (ix2 r d) = x (ix3 0 ⟨r.val - 64, by omega⟩ d) := by
  have h : ¬ r.val < 64 := by omega
  pointwise [rowsTwice]
  simp [h]

/-- The scores of a tile against its window, minus infinity outside the band. -/
theorem scoreBand_at (ok : IVec S128x256 1) (q : FVec Ideal S128x64 .f32) (k : FVec Ideal S256x64 .f32) (r : Fin 128) (c : Fin 256) :
    scoreBand ok q k (ix2 r c) = if ok (ix2 r c) = 1#1 then ∑ d, q (ix2 r d) * k (ix2 c d) else ⊥ := by
  pointwise [scoreBand]
  rfl

/-- The largest score of a row in the band. -/
theorem topBand_at (s : FVec Ideal S128x256 .f32) (r : Fin 128) :
    topBand s (ix2 r 0) = Finset.fold max ⊥ (fun c => s (ix2 r c)) Finset.univ := by
  rw [← ofBits_neg_inf]
  pointwise [topBand]

/-- The weights of the band: the exponential of a score relative to the top, times the exponential of its bias. -/
theorem weighBand_at (s w : FVec Ideal S128x256 .f32) (m : FVec Ideal S128x1 .f32) (r : Fin 128) (c : Fin 256) :
    weighBand s w m (ix2 r c) = Ideal.exp (s (ix2 r c) - m (ix2 r 0)) * w (ix2 r c) := by
  pointwise [weighBand]

/-- The score of each row against the row beside it. -/
theorem scoreRows_at (q k : FVec Ideal S128x64 .f32) (r : Fin 128) :
    scoreRows q k (ix2 r 0) = ∑ d, q (ix2 r d) * k (ix2 r d) := by
  pointwise [scoreRows]

/-- The weight of each row against the row beside it. -/
theorem weighRows_at (s m : FVec Ideal S128x1 .f32) (e : EReal) (r : Fin 128) :
    weighRows s e m (ix2 r 0) = Ideal.exp (s (ix2 r 0) - m (ix2 r 0)) * e := by
  pointwise [weighRows]

/-- The late rows are those from 64 on. -/
theorem lateRows_at (r : Fin 128) : lateRows (ix2 r 0) = BitVec.ofBool (decide (64 ≤ r.val)) := by
  pointwise [lateRows]
  revert r
  decide +kernel

/-- A choice by `lateRows`. -/
theorem select_late_at (x y : FVec Ideal S128x1 .f32) (r : Fin 128) :
    select lateRows x y (ix2 r 0) = if 64 ≤ r.val then x (ix2 r 0) else y (ix2 r 0) := by
  show (if lateRows (ix2 r 0) = 1#1 then _ else _) = _
  rw [lateRows_at]
  by_cases h : 64 ≤ r.val <;> simp [h]

/-- The band is where its weight is positive. -/
theorem inBand_at (w : FVec Ideal S128x256 .f32) (r : Fin 128) (c : Fin 256) :
    inBand w (ix2 r c) = BitVec.ofBool (decide (0 < w (ix2 r c))) := by
  pointwise [inBand]

/-- The band of the first tile leaves out the first copy of the rows. -/
theorem inFirstBand_at (w : FVec Ideal S128x256 .f32) (r : Fin 128) (c : Fin 256) :
    inFirstBand w (ix2 r c) = BitVec.ofBool (decide (0 < w (ix2 r c) ∧ 128 ≤ c.val)) := by
  pointwise [inFirstBand, inBand]
  have h : IntOp.cmpi CmpIPredicate.sge (BitVec.ofNat 32 c.val) 128#32 = BitVec.ofBool (decide (128 ≤ c.val)) := by
    revert c
    decide +kernel
  rw [h]
  by_cases h1 : 0 < w (ix2 r c) <;> by_cases h2 : 128 ≤ c.val <;> simp [h1, h2, IntOp.andi]

/-- The column at distance `o` of row `r` is `r + 128 - o`. -/
theorem dist_eq (r : Fin 128) (c : Fin 256) (o : ℕ) (ho : o ≤ 128) :
    cmpi .eq dist (broadcast S128x256 (BitVec.ofNat 32 o)) (ix2 r c) = BitVec.ofBool (decide (r.val + 128 = c.val + o)) := by
  pointwise [dist]
  have hr := r.isLt
  have hc := c.isLt
  unfold IntOp.cmpi IntOp.subi IntOp.addi
  congr 1
  rw [Bool.eq_iff_iff, decide_eq_true_iff]
  simp only [beq_iff_eq, ← BitVec.toNat_inj, BitVec.toNat_sub, BitVec.toNat_add, BitVec.toNat_ofNat]
  omega

/-! ## A tile from its parts -/

/-- The weighted sums of the values over the band. -/
theorem numer_first_at (s w : FVec Ideal S128x256 .f32) (v : FVec Ideal S256x64 .f32) (m : FVec Ideal S128x1 .f32) (r : Fin 128) (d : Fin 64) :
    matmul dot_S128x256_S256x64_S128x64_1_0_0_1_n_n none (weighBand s w m) v (constant S128x64 .f32 0x00000000#32) (ix2 r d)
      = ∑ c, weighBand s w m (ix2 r c) * v (ix2 c d) := by
  pointwise []

/-- The sum of the weights over the band. -/
theorem denom_first_at (s w : FVec Ideal S128x256 .f32) (m : FVec Ideal S128x1 .f32) (r : Fin 128) :
    shapeCast S128x1 (multiReduction .add [1] S128 (weighBand s w m) 0x00000000#32 reduces_S128x256_S128 (.inl rfl) rfl)
      shapeCasts_S128_S128x1 (ix2 r 0) = ∑ c, weighBand s w m (ix2 r c) := by
  pointwise []

/-- A weight times a row of values. -/
theorem numer_term_at (x : FVec Ideal S128x1 .f32) (y : FVec Ideal S128x64 .f32) (r : Fin 128) (d : Fin 64) :
    mulf (broadcastTo S128x64 x broadcasts_S128x1_S128x64) y (ix2 r d) = x (ix2 r 0) * y (ix2 r d) := by
  pointwise []

/-- A tile of results is the quotient of its weighted sums and its sums of weights. -/
theorem tile_at (s w : FVec Ideal S128x256 .f32) (v : FVec Ideal S256x64 .f32) (l : List (Strided Ideal)) (r : Fin 128) (d : Fin 64) :
    tile s w v l (ix3 0 r d) = Ideal.div (numer s w v l (top s l) (ix2 r d)) (denom s w l (top s l) (ix2 r 0)) := by
  pointwise [tile]

end Cert.Attn

end
-- ==== Proof.Join.lean ====
/- Joining a list, neighbours first: a sum is the list's sum, and a maximum stays between the first entry and any bound. -/
module

public import proofs.«01_k».proof.Proof.TileAt

@[expose] public section

set_option maxRecDepth 16384

noncomputable section

namespace Cert.Attn

open Cert.KernelIdeal Cert.KernelIdeal.Gen Idealize.ShloMosaic Idealize.ShloMosaic.TcCoe Idealize.SL.Sem

/-- A map that carries `f` to `f'` carries the join by `f` to the join by `f'`. -/
theorem map_pairUp {α β : Type} (f : α → α → α) (f' : β → β → β) (g : α → β) (hg : ∀ a b, g (f a b) = f' (g a) (g b)) :
    ∀ l : List α, (pairUp f l).map g = pairUp f' (l.map g)
  | [] => rfl
  | [_] => rfl
  | a :: b :: l => by
    show g (f a b) :: (pairUp f l).map g = f' (g a) (g b) :: pairUp f' (l.map g)
    rw [hg, map_pairUp f f' g hg l]

/-- A function that respects the operation passes through the joining of a list. -/
theorem map_join {α β : Type} (f : α → α → α) (f' : β → β → β) (g : α → β) (hg : ∀ a b, g (f a b) = f' (g a) (g b)) (z : α) :
    ∀ (n : ℕ) (l : List α), g (join f z n l) = join f' (g z) n (l.map g)
  | 0, [] => rfl
  | _ + 1, [] => rfl
  | 0, [_] => rfl
  | _ + 1, [_] => rfl
  | 0, _ :: _ :: _ => rfl
  | n + 1, a :: b :: l => by
    show g (join f z n (pairUp f (a :: b :: l))) = join f' (g z) n (pairUp f' ((a :: b :: l).map g))
    rw [map_join f f' g hg z n, map_pairUp f f' g hg]

/-- Pairing up by addition keeps the sum. -/
theorem sum_pairUp : ∀ l : List EReal, (pairUp (· + ·) l).sum = l.sum
  | [] => rfl
  | [_] => rfl
  | a :: b :: l => by
    show (a + b) + (pairUp (· + ·) l).sum = a + (b + l.sum)
    rw [sum_pairUp l, add_assoc]

/-- Pairing up halves the length. -/
theorem length_pairUp {α : Type} (f : α → α → α) : ∀ l : List α, 2 * (pairUp f l).length ≤ l.length + 1
  | [] => Nat.zero_le _
  | [_] => le_rfl
  | a :: b :: l => by
    have h := length_pairUp f l
    show 2 * ((pairUp f l).length + 1) ≤ l.length + 1 + 1 + 1
    omega

/-- Joining by addition, with enough rounds, is the sum. -/
theorem join_add (z : EReal) : ∀ (n : ℕ) (l : List EReal), l ≠ [] → l.length ≤ 2 ^ n → join (· + ·) z n l = l.sum
  | _, [], h, _ => absurd rfl h
  | 0, [a], _, _ => (add_zero a).symm
  | _ + 1, [a], _, _ => (add_zero a).symm
  | 0, a :: b :: l, _, h => by
    have h' : l.length + 1 + 1 ≤ 1 := h
    omega
  | n + 1, a :: b :: l, _, h => by
    show join (· + ·) z n (pairUp (· + ·) (a :: b :: l)) = _
    have hl := length_pairUp (fun x y : EReal => x + y) (a :: b :: l)
    rw [pow_succ] at h
    rw [join_add z n _ (by show _ :: _ ≠ []; simp) (by omega), sum_pairUp]

/-- A bound of two entries that each pair keeps is kept by pairing up. -/
theorem pairUp_mem {α : Type} (f : α → α → α) (P : α → Prop) (hf : ∀ a b, P a → P b → P (f a b)) :
    ∀ l : List α, (∀ a ∈ l, P a) → ∀ a ∈ pairUp f l, P a
  | [], _, _, h => absurd h List.not_mem_nil
  | [_], hl, a, h => hl a h
  | x :: y :: l, hl, a, h => by
    rcases List.mem_cons.mp h with rfl | h
    · exact hf _ _ (hl x (by simp)) (hl y (by simp))
    · exact pairUp_mem f P hf l (fun b hb => hl b (by simp [hb])) a h

/-- … and by joining. -/
theorem join_mem {α : Type} (f : α → α → α) (P : α → Prop) (hf : ∀ a b, P a → P b → P (f a b)) (z : α) (hz : P z) :
    ∀ (n : ℕ) (l : List α), (∀ a ∈ l, P a) → P (join f z n l)
  | 0, [], _ => hz
  | _ + 1, [], _ => hz
  | 0, [a], hl => hl a (by simp)
  | _ + 1, [a], hl => hl a (by simp)
  | 0, a :: b :: l, hl => hl a (by simp)
  | n + 1, a :: b :: l, hl => join_mem f P hf z hz n _ (pairUp_mem f P hf _ hl)

/-- Joining by the maximum keeps at least the first entry. -/
theorem le_join (z : EReal) : ∀ (n : ℕ) (a : EReal) (l : List EReal), a ≤ join max z n (a :: l)
  | 0, _, [] => le_rfl
  | _ + 1, _, [] => le_rfl
  | 0, _, _ :: _ => le_rfl
  | n + 1, a, b :: l => (le_max_left a b).trans (le_join z n (max a b) (pairUp max l))

end Cert.Attn

end
-- ==== Proof.Band.lean ====
/- The entries of the band of weights, and sums over its columns. -/
module

public import proofs.«01_k».proof.Proof.TileAt

@[expose] public section

set_option maxRecDepth 16384

noncomputable section

namespace Cert.Attn

open Cert.KernelIdeal Cert.KernelIdeal.Gen Idealize.ShloMosaic Idealize.ShloMosaic.TcCoe Idealize.SL.Sem

/-- The weight that a list of offsets leaves at row `r` and column `c`, starting from `a`. -/
theorem bandOver_at (r : Fin 128) (c : Fin 256) : ∀ (l : List (ℕ × EReal)) (w : FVec Ideal S128x256 .f32), (∀ p ∈ l, p.1 ≤ 128) →
    bandOver w l (ix2 r c) = l.foldl (fun a p => if r.val + 128 = c.val + p.1 then p.2 else a) (w (ix2 r c))
  | [], _, _ => rfl
  | (o, e) :: l, w, h => by
    rw [bandOver, bandOver_at r c l _ fun p hp => h p (List.mem_cons_of_mem _ hp), List.foldl_cons]
    congr 1
    show (if cmpi .eq dist (broadcast S128x256 (BitVec.ofNat 32 o)) (ix2 r c) = 1#1 then e else w (ix2 r c)) = _
    rw [dist_eq r c o (h (o, e) List.mem_cons_self)]
    by_cases hc : r.val + 128 = c.val + o <;> simp [hc]

/-- The 37 offsets with their weights. -/
def bandList (e : Fin 48 → EReal) : List (ℕ × EReal) := List.ofFn fun i : Fin 37 => (near i, e (Fin.castLE (by omega) i))

/-- The near offsets are at most 128. -/
theorem near_le (i : Fin 37) : near i ≤ 128 := by
  revert i
  decide

/-- The near offsets are distinct. -/
theorem near_injective : Function.Injective near := by
  intro i j
  revert i j
  decide

/-- An entry of the band, as the chain of choices that makes it. -/
theorem band_at (e : Fin 48 → EReal) (r : Fin 128) (c : Fin 256) :
    band (F := Ideal) e (ix2 r c) = (bandList e).foldl (fun a p => if r.val + 128 = c.val + p.1 then p.2 else a) 0 := by
  have h : band (F := Ideal) e = bandOver (broadcast S128x256 (Scalar.ofBits .f32 0x00000000#32)) (bandList e) := rfl
  rw [h, bandOver_at]
  · congr 1
    exact Ideal.ofBits_zero_f32
  · intro p hp
    obtain ⟨i, rfl⟩ := (List.mem_ofFn' _ _).mp hp
    exact near_le i

/-- A list of choices whose conditions fail changes nothing. -/
theorem foldl_miss {α : Type} (P : α → Prop) [DecidablePred P] (f : α → EReal) :
    ∀ (l : List α) (a : EReal), (∀ p ∈ l, ¬ P p) → l.foldl (fun a p => if P p then f p else a) a = a
  | [], _, _ => rfl
  | p :: l, a, h => by
    rw [List.foldl_cons, if_neg (h p List.mem_cons_self)]
    exact foldl_miss P f l a fun q hq => h q (List.mem_cons_of_mem _ hq)

/-- A list of choices whose condition holds at one entry only takes that entry's value. -/
theorem foldl_hit {α : Type} (P : α → Prop) [DecidablePred P] (f : α → EReal) (x : α) (hx : P x) :
    ∀ (l : List α) (a : EReal), x ∈ l → (∀ p ∈ l, P p → p = x) → l.foldl (fun a p => if P p then f p else a) a = f x
  | [], _, h, _ => absurd h List.not_mem_nil
  | p :: l, a, h, h1 => by
    rw [List.foldl_cons]
    by_cases hl : x ∈ l
    · exact foldl_hit P f x hx l _ hl fun q hq => h1 q (List.mem_cons_of_mem _ hq)
    · obtain rfl : x = p := (List.mem_cons.mp h).resolve_right hl
      rw [foldl_miss P f l _ fun q hq hP => hl (h1 q (List.mem_cons_of_mem _ hq) hP ▸ hq), if_pos hx]

/-- The band at distance `near i` holds weight `i`. -/
theorem band_hit (e : Fin 48 → EReal) (r : Fin 128) (c : Fin 256) (i : Fin 37) (h : r.val + 128 = c.val + near i) :
    band (F := Ideal) e (ix2 r c) = e (Fin.castLE (by omega) i) := by
  rw [band_at]
  refine foldl_hit (fun p : ℕ × EReal => r.val + 128 = c.val + p.1) Prod.snd (near i, e (Fin.castLE (by omega) i)) h _ _
    ((List.mem_ofFn' _ _).mpr ⟨i, rfl⟩) fun p hp hP => ?_
  obtain ⟨j, rfl⟩ := (List.mem_ofFn' _ _).mp hp
  have hP' : r.val + 128 = c.val + near j := hP
  rw [near_injective (show near j = near i by omega)]

/-- At every other distance it is zero. -/
theorem band_miss (e : Fin 48 → EReal) (r : Fin 128) (c : Fin 256) (h : ∀ i, r.val + 128 ≠ c.val + near i) :
    band (F := Ideal) e (ix2 r c) = 0 := by
  rw [band_at]
  refine foldl_miss (fun p : ℕ × EReal => r.val + 128 = c.val + p.1) Prod.snd _ _ fun p hp hP => ?_
  obtain ⟨j, rfl⟩ := (List.mem_ofFn' _ _).mp hp
  exact h j hP

/-- The column at distance `near i` of row `r`. -/
def col (r : Fin 128) (i : Fin 37) : Fin 256 := ⟨r.val + 128 - near i, by omega⟩

/-- The column of near offset `i` lies at that distance of the row. -/
theorem col_spec (r : Fin 128) (i : Fin 37) : r.val + 128 = (col r i).val + near i := by
  have h := near_le i
  show r.val + 128 = r.val + 128 - near i + near i
  omega

/-- A sum over the columns whose terms vanish off the band runs over the 37 offsets. -/
theorem sum_cols (r : Fin 128) (G : Fin 256 → EReal) (hG : ∀ c : Fin 256, (∀ i, r.val + 128 ≠ c.val + near i) → G c = 0) :
    ∑ c, G c = ∑ i, G (col r i) := by
  refine (Fintype.sum_of_injective (col r) (fun i j h => ?_) _ _ (fun c hc => hG c fun i hi => hc ⟨i, ?_⟩) fun _ => rfl).symm
  · have hi := col_spec r i
    have hj := col_spec r j
    rw [h] at hi
    exact near_injective (by omega)
  · have h := col_spec r i
    exact Fin.ext (by omega)

end Cert.Attn

end
-- ==== Proof.Attention.lean ====
/- The attention itself, over real queries, keys and biases and extended real values.

   Row `n` looks back at the rows `n - off i` for 44 offsets `off i`, those at offsets larger than `n` left out.  A row looked
   at weighs `exp (score - μ) · exp bias`, and the result is the weighted mean of the values.  The reference score `μ`
   cancels (`attn_congr`), so it does not matter which one a program subtracts. -/
module

public import Idealize.ShloMosaic.PureOps.Ideal
public import Idealize.ShloMosaic.PureOps.Ideal.Laws

@[expose] public section

set_option maxRecDepth 16384

noncomputable section

namespace Cert.Attn

open Idealize.ShloMosaic

/-- The 44 offsets. -/
def off : Fin 44 → ℕ :=
  ![0, 1, 2, 3, 4, 5, 6, 7, 8, 9, 10, 11, 12, 13, 14, 15, 16, 17, 18, 19, 20, 21, 22, 23, 24, 25, 26, 27, 28, 29, 30, 31, 32, 48, 64,
    96, 128, 192, 256, 384, 512, 768, 1024, 1536]

/-- The row `o` before row `n`; row 0 where there is none. -/
def back (n : Fin 2048) (o : ℕ) : Fin 2048 := ⟨n.val - o, by omega⟩

/-- The score of row `n` against the row `o` before it. -/
def score (Q K : Fin 2048 → Fin 64 → ℝ) (n : Fin 2048) (o : ℕ) : ℝ := ∑ d, Q n d * (1 / 8) * K (back n o) d

/-- The weight at offset `i` of row `n`, the scores taken relative to `μ`. -/
def weight (Q K : Fin 2048 → Fin 64 → ℝ) (B : Fin 44 → ℝ) (μ : ℝ) (n : Fin 2048) (i : Fin 44) : ℝ :=
  if off i ≤ n.val then Real.exp (score Q K n (off i) - μ) * Real.exp (B i) else 0

/-- Lane `d` of row `n` of the attention: the weighted mean of the values. -/
def attn (Q K : Fin 2048 → Fin 64 → ℝ) (B : Fin 44 → ℝ) (V : Fin 2048 → Fin 64 → EReal) (μ : ℝ) (n : Fin 2048) (d : Fin 64) : EReal :=
  (∑ i, (weight Q K B μ n i : EReal) * V (back n (off i)) d) * ((1 / ∑ i, weight Q K B μ n i : ℝ) : EReal)

variable (Q K : Fin 2048 → Fin 64 → ℝ) (B : Fin 44 → ℝ) (V : Fin 2048 → Fin 64 → EReal)

/-- Weights are not negative. -/
theorem weight_nonneg (μ : ℝ) (n : Fin 2048) (i : Fin 44) : 0 ≤ weight Q K B μ n i := by
  unfold weight
  split
  · positivity
  · exact le_rfl

/-- The weights of a row have a positive sum: every row looks at itself. -/
theorem weight_sum_pos (μ : ℝ) (n : Fin 2048) : 0 < ∑ i, weight Q K B μ n i := by
  refine Finset.sum_pos' (fun i _ => weight_nonneg Q K B μ n i) ⟨0, Finset.mem_univ _, ?_⟩
  have h : off 0 ≤ n.val := Nat.zero_le _
  unfold weight
  rw [if_pos h]
  positivity

/-- Another reference score multiplies every weight by the same number. -/
theorem weight_shift (μ μ' : ℝ) (n : Fin 2048) (i : Fin 44) :
    weight Q K B μ n i = Real.exp (μ' - μ) * weight Q K B μ' n i := by
  unfold weight
  split
  · simp only [← Real.exp_add]
    congr 1
    ring
  · rw [mul_zero]

/-- A nonnegative real number times a sum of extended reals. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The attention does not depend on the reference score. -/
theorem attn_congr (μ μ' : ℝ) (n : Fin 2048) (d : Fin 64) : attn Q K B V μ n d = attn Q K B V μ' n d := by
  unfold attn
  have hc : 0 < Real.exp (μ' - μ) := Real.exp_pos _
  have hW := weight_sum_pos Q K B μ' n
  simp only [weight_shift Q K B μ μ' n]
  rw [← Finset.mul_sum]
  simp only [EReal.coe_mul, mul_assoc]
  rw [← coe_mul_sum _ hc.le, mul_comm ((Real.exp (μ' - μ) : ℝ) : EReal), mul_assoc, ← EReal.coe_mul]
  congr 2
  field_simp

/-- The attention as a sum of values times normalised weights. -/
theorem attn_eq_sum (μ : ℝ) (n : Fin 2048) (d : Fin 64) :
    attn Q K B V μ n d
      = ∑ i, ((weight Q K B μ n i / ∑ j, weight Q K B μ n j : ℝ) : EReal) * V (back n (off i)) d := by
  have hW := weight_sum_pos Q K B μ n
  unfold attn
  rw [mul_comm, coe_mul_sum _ (by positivity)]
  refine Finset.sum_congr rfl fun i _ => ?_
  rw [← mul_assoc, ← EReal.coe_mul]
  congr 2
  ring

/-- The score with its bias, or `⊥` where the offset reaches before row 0. -/
def biased (n : Fin 2048) (i : Fin 44) : EReal :=
  if off i ≤ n.val then ((score Q K n (off i) + B i : ℝ) : EReal) else ⊥

/-- Its exponential relative to `μ` is the weight. -/
theorem exp_biased (μ : ℝ) (n : Fin 2048) (i : Fin 44) :
    Ideal.exp (biased Q K B n i - (μ : EReal)) = (weight Q K B μ n i : EReal) := by
  unfold biased weight
  split
  · rw [← EReal.coe_sub, Ideal.exp_coe, ← Real.exp_add]
    congr 2
    ring
  · rw [EReal.bot_sub, Ideal.exp_bot, EReal.coe_zero]

/-- Relative to the logarithm of the sum of the weights, it is the normalised weight. -/
theorem exp_biased_lse (μ : ℝ) (n : Fin 2048) (i : Fin 44) :
    Ideal.exp (biased Q K B n i - ((μ : EReal) + Ideal.log (∑ j, Ideal.exp (biased Q K B n j - (μ : EReal)))))
      = ((weight Q K B μ n i / ∑ j, weight Q K B μ n j : ℝ) : EReal) := by
  have hW := weight_sum_pos Q K B μ n
  have hs : ∑ j, Ideal.exp (biased Q K B n j - (μ : EReal)) = ((∑ j, weight Q K B μ n j : ℝ) : EReal) := by
    simp only [exp_biased, coe_sum]
  rw [hs, Ideal.log_coe, if_neg (not_le.mpr hW), ← EReal.coe_add, exp_biased,
    weight_shift Q K B _ μ, EReal.coe_eq_coe_iff, sub_add_cancel_left, Real.exp_neg, Real.exp_log hW]
  ring

/-- The attention of row `n` as the reference writes it: values times exponentials of biased scores, less the logarithm
    of their sum, taken relative to `μ`. -/
theorem sum_exp_biased (μ : ℝ) (n : Fin 2048) (d : Fin 64) :
    ∑ i, Ideal.exp (biased Q K B n i - ((μ : EReal) + Ideal.log (∑ j, Ideal.exp (biased Q K B n j - (μ : EReal)))))
        * V (back n (off i)) d = attn Q K B V 0 n d := by
  rw [attn_congr Q K B V 0 μ, attn_eq_sum]
  exact Finset.sum_congr rfl fun i _ => by rw [exp_biased_lse]

end Cert.Attn

end
-- ==== Proof.TileRow.lean ====
/- A tile computes the attention of its rows, given what its scores, values and larger offsets hold. -/
module

public import proofs.«01_k».proof.Proof.Join
public import proofs.«01_k».proof.Proof.Band
public import proofs.«01_k».proof.Proof.Attention

@[expose] public section

set_option maxRecDepth 16384

noncomputable section

namespace Cert.Attn

open Cert.KernelIdeal Cert.KernelIdeal.Gen Idealize.ShloMosaic Idealize.ShloMosaic.TcCoe Idealize.SL.Sem

/-- The first 37 offsets are those of the window … -/
theorem off_near (i : Fin 37) : off (Fin.castAdd 7 i) = near i := by
  revert i
  decide

/-- … and the other 7 are the larger ones. -/
theorem off_far (j : Fin 7) : off (Fin.natAdd 37 j) = far j := by
  revert j
  decide

/-- A sum over the 44 offsets, split. -/
theorem sum_off {α : Type} [AddCommMonoid α] (f : Fin 44 → α) :
    ∑ i, f i = ∑ i : Fin 37, f (Fin.castAdd 7 i) + ∑ j : Fin 7, f (Fin.natAdd 37 j) :=
  @Fin.sum_univ_add _ _ 37 7 f

/-- The sum over the larger offsets listed, those not listed contributing nothing. -/
theorem sum_listed (js : List (Fin 7)) (hnd : js.Nodup) (f : Fin 7 → EReal) (hf : ∀ j, j ∉ js → f j = 0) :
    (js.map f).sum = ∑ j, f j := by
  rw [← List.sum_toFinset f hnd]
  exact Finset.sum_subset (Finset.subset_univ _) fun j _ hj => hf j fun h => hj (List.mem_toFinset.mpr h)

/-- What a tile's row `r` needs to compute row `n` of the attention: the scores of the 37 window columns, the values there,
    and, for each larger offset listed in `js`, its weight and values. -/
structure RowSpec (Q K : Fin 2048 → Fin 64 → ℝ) (B : Fin 44 → ℝ) (V : Fin 2048 → Fin 64 → EReal) (n : Fin 2048) (r : Fin 128)
    (s : FVec Ideal S128x256 .f32) (v : FVec Ideal S256x64 .f32) (js : List (Fin 7)) (g : Fin 7 → Strided Ideal) : Prop where
  score_eq : ∀ i : Fin 37, s (ix2 r (col r i)) = if near i ≤ n.val then (score Q K n (near i) : EReal) else ⊥
  score_lt : ∀ c, s (ix2 r c) < ⊤
  value_eq : ∀ i : Fin 37, near i ≤ n.val → ∀ d, v (ix2 (col r i) d) = V (back n (near i)) d
  nodup : js.Nodup
  rest : ∀ j, j ∉ js → n.val < far j
  far_score_lt : ∀ j ∈ js, (g j).score (ix2 r 0) < ⊤
  far_weight : ∀ j ∈ js, ∀ (m : FVec Ideal S128x1 .f32) (μ : ℝ), m (ix2 r 0) = (μ : EReal) →
    (g j).weight m (ix2 r 0) = (weight Q K B μ n (Fin.natAdd 37 j) : EReal)
  far_value : ∀ j ∈ js, far j ≤ n.val → ∀ d, (g j).value (ix2 r d) = V (back n (far j)) d

section
variable {Q K : Fin 2048 → Fin 64 → ℝ} {B : Fin 44 → ℝ} {V : Fin 2048 → Fin 64 → EReal} {n : Fin 2048} {r : Fin 128}
  {s : FVec Ideal S128x256 .f32} {v : FVec Ideal S256x64 .f32} {js : List (Fin 7)} {g : Fin 7 → Strided Ideal}
  {e : Fin 48 → EReal}

/-- At most seven far offsets are begun. -/
theorem RowSpec.length_le (h : RowSpec Q K B V n r s v js g) : js.length ≤ 7 := by
  have hl := h.nodup.length_le_card
  rwa [Fintype.card_fin] at hl

/-- The reference score of the row is a real number. -/
theorem RowSpec.top_real (h : RowSpec Q K B V n r s v js g) : ∃ μ : ℝ, top s (js.map g) (ix2 r 0) = (μ : EReal) := by
  have e1 : top s (js.map g) (ix2 r 0)
      = join max (topBand s (ix2 r 0)) 3 (topBand s (ix2 r 0) :: ((js.map g).map Strided.score).map fun x => x (ix2 r 0)) :=
    map_join maximumf max (fun x : FVec Ideal S128x1 .f32 => x (ix2 r 0)) (fun _ _ => rfl) (topBand s) 3 _
  have hlt : topBand s (ix2 r 0) < ⊤ := by
    rw [topBand_at, Finset.fold_max_lt]
    exact ⟨bot_lt_top, fun c _ => h.score_lt c⟩
  have hgt : ⊥ < topBand s (ix2 r 0) := by
    rw [topBand_at, Finset.lt_fold_max]
    refine .inr ⟨col r 0, Finset.mem_univ _, ?_⟩
    rw [h.score_eq, if_pos (show near 0 ≤ n.val from Nat.zero_le _)]
    exact EReal.bot_lt_coe _
  have h1 : top s (js.map g) (ix2 r 0) < ⊤ := by
    rw [e1]
    have hmax : ∀ a b : EReal, a < ⊤ → b < ⊤ → max a b < ⊤ := fun a b => max_lt
    refine join_mem max (fun a : EReal => a < ⊤) hmax _ hlt 3 _ fun a ha => ?_
    rw [List.mem_cons] at ha
    obtain h0 | ha := ha
    · rw [h0]
      exact hlt
    · simp only [List.map_map, List.mem_map, Function.comp] at ha
      obtain ⟨j, hj, rfl⟩ := ha
      exact h.far_score_lt j hj
  have h2 : ⊥ < top s (js.map g) (ix2 r 0) := by
    rw [e1]
    exact hgt.trans_le (le_join _ 3 _ _)
  exact ⟨_, (EReal.coe_toReal h1.ne h2.ne').symm⟩

/-- A weight of the window. -/
theorem RowSpec.weigh_col (h : RowSpec Q K B V n r s v js g) (he : ∀ i : Fin 44, e (Fin.castLE (by omega) i) = (Real.exp (B i) : EReal))
    (m : FVec Ideal S128x1 .f32) (μ : ℝ) (hm : m (ix2 r 0) = (μ : EReal)) (i : Fin 37) :
    weighBand s (band (F := Ideal) e) m (ix2 r (col r i)) = (weight Q K B μ n (Fin.castAdd 7 i) : EReal) := by
  rw [weighBand_at, band_hit e r (col r i) i (col_spec r i), hm, h.score_eq,
    show e (Fin.castLE (by omega) i) = (Real.exp (B (Fin.castAdd 7 i)) : EReal) from he (Fin.castAdd 7 i)]
  unfold weight
  rw [off_near]
  split
  · rw [← EReal.coe_sub, Ideal.exp_coe, EReal.coe_mul]
  · rw [EReal.bot_sub, Ideal.exp_bot, zero_mul, EReal.coe_zero]

/-- Off the band the weight is zero. -/
theorem weigh_off (m : FVec Ideal S128x1 .f32) (c : Fin 256) (hc : ∀ i, r.val + 128 ≠ c.val + near i) :
    weighBand s (band (F := Ideal) e) m (ix2 r c) = 0 := by
  rw [weighBand_at, band_miss e r c hc, mul_zero]

/-- A larger offset not listed weighs nothing. -/
theorem RowSpec.weight_rest (h : RowSpec Q K B V n r s v js g) (μ : ℝ) (j : Fin 7) (hj : j ∉ js) :
    weight Q K B μ n (Fin.natAdd 37 j) = 0 := by
  have := h.rest j hj
  unfold weight
  rw [off_far, if_neg (by omega)]

/-- The sum of the weights of the row. -/
theorem RowSpec.denom_eq (h : RowSpec Q K B V n r s v js g) (he : ∀ i : Fin 44, e (Fin.castLE (by omega) i) = (Real.exp (B i) : EReal))
    (m : FVec Ideal S128x1 .f32) (μ : ℝ) (hm : m (ix2 r 0) = (μ : EReal)) :
    denom s (band (F := Ideal) e) (js.map g) m (ix2 r 0) = ((∑ i, weight Q K B μ n i : ℝ) : EReal) := by
  refine (map_join addf (· + ·) (fun x : FVec Ideal S128x1 .f32 => x (ix2 r 0)) (fun _ _ => rfl) _ 3 _).trans ?_
  rw [join_add _ 3 _ (by simp)
    (by have := h.length_le; simp only [List.length_cons, List.length_map]; omega),
    List.map_cons, List.sum_cons, denom_first_at, sum_cols r _ fun c hc => weigh_off m c hc, coe_sum, sum_off]
  congr 1
  · exact Finset.sum_congr rfl fun i _ => h.weigh_col he m μ hm i
  · rw [← sum_listed js h.nodup (fun j => ((weight Q K B μ n (Fin.natAdd 37 j) : ℝ) : EReal))
      fun j hj => by rw [h.weight_rest μ j hj, EReal.coe_zero]]
    simp only [List.map_map]
    congr 1
    exact List.map_congr_left fun j hj => h.far_weight j hj m μ hm

/-- The weighted sum of the values of the row. -/
theorem RowSpec.numer_eq (h : RowSpec Q K B V n r s v js g) (he : ∀ i : Fin 44, e (Fin.castLE (by omega) i) = (Real.exp (B i) : EReal))
    (m : FVec Ideal S128x1 .f32) (μ : ℝ) (hm : m (ix2 r 0) = (μ : EReal)) (d : Fin 64) :
    numer s (band (F := Ideal) e) v (js.map g) m (ix2 r d) = ∑ i, (weight Q K B μ n i : EReal) * V (back n (off i)) d := by
  refine (map_join addf (· + ·) (fun x : FVec Ideal S128x64 .f32 => x (ix2 r d)) (fun _ _ => rfl) _ 3 _).trans ?_
  rw [join_add _ 3 _ (by simp)
    (by have := h.length_le; simp only [List.length_cons, List.length_map]; omega),
    List.map_cons, List.sum_cons, numer_first_at,
    sum_cols r _ fun c hc => by rw [weigh_off m c hc, zero_mul], sum_off]
  congr 1
  · refine Finset.sum_congr rfl fun i _ => ?_
    rw [h.weigh_col he m μ hm i, off_near]
    by_cases hi : near i ≤ n.val
    · rw [h.value_eq i hi]
    · rw [show weight Q K B μ n (Fin.castAdd 7 i) = 0 by unfold weight; rw [off_near, if_neg hi], EReal.coe_zero, zero_mul, zero_mul]
  · rw [← sum_listed js h.nodup (fun j => ((weight Q K B μ n (Fin.natAdd 37 j) : ℝ) : EReal) * V (back n (off (Fin.natAdd 37 j))) d)
      fun j hj => by rw [h.weight_rest μ j hj, EReal.coe_zero, zero_mul]]
    simp only [List.map_map]
    congr 1
    refine List.map_congr_left fun j hj => ?_
    show mulf (broadcastTo S128x64 ((g j).weight m) broadcasts_S128x1_S128x64) (g j).value (ix2 r d) = _
    rw [numer_term_at, h.far_weight j hj m μ hm, off_far]
    by_cases hn : far j ≤ n.val
    · rw [h.far_value j hj hn]
    · rw [show weight Q K B μ n (Fin.natAdd 37 j) = 0 by unfold weight; rw [off_far, if_neg hn], EReal.coe_zero, zero_mul, zero_mul]

/-- The row of the tile is row `n` of the attention. -/
theorem RowSpec.tile_eq (h : RowSpec Q K B V n r s v js g) (he : ∀ i : Fin 44, e (Fin.castLE (by omega) i) = (Real.exp (B i) : EReal))
    (d : Fin 64) : tile s (band (F := Ideal) e) v (js.map g) (ix3 0 r d) = attn Q K B V 0 n d := by
  obtain ⟨μ, hμ⟩ := h.top_real
  rw [tile_at, h.denom_eq he _ μ hμ, h.numer_eq he _ μ hμ, Ideal.div_coe (weight_sum_pos Q K B μ n).ne']
  exact attn_congr Q K B V μ 0 n d

end

end Cert.Attn

end
-- ==== Proof.TileAttn.lean ====
/- Each of the sixteen tiles computes the attention of its 128 rows. -/
module

public import proofs.«01_k».proof.Proof.TileRow

@[expose] public section

set_option maxRecDepth 16384

noncomputable section

namespace Cert.Attn

open Cert.KernelIdeal Cert.KernelIdeal.Gen Idealize.ShloMosaic Idealize.ShloMosaic.TcCoe Idealize.SL.Sem

/-- No far offset is begun twice. -/
theorem begun_nodup : ∀ t, (begun t).Nodup := by decide

/-- An offset not begun reaches before row 0 from every row of the tile. -/
theorem begun_rest : ∀ t j, j ∉ begun t → 128 * t.val + 128 ≤ far j := by decide

/-- But in tile 1, an offset begun reaches a row from every row of the tile. -/
theorem begun_full : ∀ t j, j ∈ begun t → t.val ≠ 1 → far j ≤ 128 * t.val := by decide

/-- Tile 1 begins the first far offset only. -/
theorem begun_one : ∀ t j, j ∈ begun t → t.val = 1 → t = 1 ∧ j = 0 := by decide

/-- What the fetched weights, queries, keys and values are. -/
structure Fetched (Q K : Fin 2048 → Fin 64 → ℝ) (B : Fin 44 → ℝ) (V : Fin 2048 → Fin 64 → EReal) (e : Fin 48 → EReal)
    (q k v : Fetch Ideal) : Prop where
  e_eq : ∀ i : Fin 44, e (Fin.castLE (by omega) i) = (Real.exp (B i) : EReal)
  q_eq : ∀ (n o : ℕ) (h : o + n ≤ 2048) (r : Fin n) (d : Fin 64), q n o h (ix3 0 r d) = (Q ⟨o + r.val, by omega⟩ d : EReal)
  k_eq : ∀ (n o : ℕ) (h : o + n ≤ 2048) (r : Fin n) (d : Fin 64), k n o h (ix3 0 r d) = (K ⟨o + r.val, by omega⟩ d : EReal)
  v_eq : ∀ (n o : ℕ) (h : o + n ≤ 2048) (r : Fin n) (d : Fin 64), v n o h (ix3 0 r d) = V ⟨o + r.val, by omega⟩ d

/-- Row `r` of tile `t` among the 2048. -/
def rowOf (t : Fin 16) (r : Fin 128) : Fin 2048 := ⟨128 * t.val + r.val, by omega⟩

/-- The score of row `n` against row `p`. -/
def dot (Q K : Fin 2048 → Fin 64 → ℝ) (n p : Fin 2048) : ℝ := ∑ d, Q n d * (1 / 8) * K p d

section
variable {Q K : Fin 2048 → Fin 64 → ℝ} {B : Fin 44 → ℝ} {V : Fin 2048 → Fin 64 → EReal} {e : Fin 48 → EReal} {q k v : Fetch Ideal}

/-- The queries of a tile against a row of keys. -/
theorem Fetched.dot_eq (h : Fetched Q K B V e q k v) (t : Fin 16) (r : Fin 128) (p : Fin 2048) (f : Fin 64 → EReal)
    (hf : ∀ d, f d = (K p d : EReal)) : ∑ d, tileQueries q t (ix2 r d) * f d = (dot Q K (rowOf t r) p : EReal) := by
  unfold dot
  rw [coe_sum]
  refine Finset.sum_congr rfl fun d _ => ?_
  unfold tileQueries
  rw [queries_at, h.q_eq, hf, ← EReal.coe_mul, ← EReal.coe_mul]
  rfl

/-- A score of the window: real inside the band, `⊥` outside. -/
theorem Fetched.window_score (h : Fetched Q K B V e q k v) (t : Fin 16) (ht : t.val ≠ 0) (r : Fin 128) (c : Fin 256) :
    scoreBand (inBand (band (F := Ideal) e)) (tileQueries q t) (window (k 256 (128 * t.val - 128) (by omega))) (ix2 r c)
      = if 0 < band (F := Ideal) e (ix2 r c)
        then (dot Q K (rowOf t r) ⟨128 * t.val - 128 + c.val, by omega⟩ : EReal) else ⊥ := by
  rw [scoreBand_at, inBand_at,
    h.dot_eq t r ⟨128 * t.val - 128 + c.val, by omega⟩ _ fun d => by rw [window_at, h.k_eq]]
  by_cases hb : 0 < band (F := Ideal) e (ix2 r c) <;> simp [hb]

/-- A score of the first tile: real inside the band and in the second half of the columns, `⊥` elsewhere. -/
theorem Fetched.first_score (h : Fetched Q K B V e q k v) (t : Fin 16) (r : Fin 128) (c : Fin 256) :
    scoreBand (inFirstBand (band (F := Ideal) e)) (tileQueries q t) (twice (k 128 0 (by omega))) (ix2 r c)
      = if 0 < band (F := Ideal) e (ix2 r c) ∧ 128 ≤ c.val
        then (dot Q K (rowOf t r) ⟨c.val - 128, by omega⟩ : EReal) else ⊥ := by
  rw [scoreBand_at, inFirstBand_at]
  by_cases hc : 128 ≤ c.val
  · rw [h.dot_eq t r ⟨c.val - 128, by omega⟩ _ fun d => by
      rw [twice_at _ c hc, h.k_eq]
      congr 2
      exact Fin.ext (Nat.zero_add _)]
    by_cases hb : 0 < band (F := Ideal) e (ix2 r c) <;> simp [hb, hc]
  · simp [hc]

/-- Inside the band the weight is positive. -/
theorem Fetched.band_pos (h : Fetched Q K B V e q k v) (r : Fin 128) (i : Fin 37) : 0 < band (F := Ideal) e (ix2 r (col r i)) := by
  rw [band_hit e r (col r i) i (col_spec r i),
    show e (Fin.castLE (by omega) i) = (Real.exp (B (Fin.castAdd 7 i)) : EReal) from h.e_eq (Fin.castAdd 7 i)]
  exact_mod_cast Real.exp_pos _

/-- A real number or minus infinity is less than infinity. -/
theorem ite_coe_lt_top (p : Prop) [Decidable p] (x : ℝ) : (if p then (x : EReal) else ⊥) < ⊤ := by
  split
  · exact EReal.coe_lt_top _
  · exact bot_lt_top

/-- The weight of a larger offset whose biased score is known. -/
theorem far_weight_eq (h : Fetched Q K B V e q k v) (n : Fin 2048) (j : Fin 7) (μ : ℝ) :
    Ideal.exp ((if far j ≤ n.val then (score Q K n (far j) : EReal) else ⊥) - (μ : EReal)) * e ⟨37 + j.val, by omega⟩
      = (weight Q K B μ n (Fin.natAdd 37 j) : EReal) := by
  rw [show e ⟨37 + j.val, by omega⟩ = (Real.exp (B (Fin.natAdd 37 j)) : EReal) from h.e_eq (Fin.natAdd 37 j)]
  unfold weight
  rw [off_far]
  split
  · rw [← EReal.coe_sub, Ideal.exp_coe, EReal.coe_mul]
  · rw [EReal.bot_sub, Ideal.exp_bot, zero_mul, EReal.coe_zero]

/-- The score of a larger offset every row has reached. -/
theorem Fetched.strided_score (h : Fetched Q K B V e q k v) (t : Fin 16) (j : Fin 7) (hj : far j ≤ 128 * t.val) (r : Fin 128) :
    (stridedAt e q k v t j).score (ix2 r 0) = if far j ≤ (rowOf t r).val then (score Q K (rowOf t r) (far j) : EReal) else ⊥ := by
  rw [if_pos (show far j ≤ (rowOf t r).val by
    show far j ≤ 128 * t.val + r.val
    omega)]
  refine (scoreRows_at _ _ r).trans (h.dot_eq t r (back (rowOf t r) (far j)) _ fun d => ?_)
  rw [rows_at, h.k_eq]
  congr 2
  refine Fin.ext ?_
  show 128 * t.val - far j + r.val = 128 * t.val + r.val - far j
  omega

/-- The score of the offset 192 in tile 1. -/
theorem Fetched.half_score (h : Fetched Q K B V e q k v) (r : Fin 128) :
    (stridedHalf e q k v).score (ix2 r 0) = if far 0 ≤ (rowOf 1 r).val then (score Q K (rowOf 1 r) (far 0) : EReal) else ⊥ := by
  have hi : far 0 ≤ (rowOf 1 r).val ↔ 64 ≤ r.val := by
    show 192 ≤ 128 * 1 + r.val ↔ _
    omega
  refine (select_late_at _ _ r).trans ?_
  by_cases hr : 64 ≤ r.val
  · rw [if_pos hr, if_pos (hi.mpr hr)]
    refine (scoreRows_at _ _ r).trans (h.dot_eq 1 r (back (rowOf 1 r) (far 0)) _ fun d => ?_)
    rw [rowsTwice_at _ r hr, h.k_eq]
    congr 2
    refine Fin.ext ?_
    show 0 + (r.val - 64) = 128 * 1 + r.val - 192
    omega
  · rw [if_neg hr, if_neg fun hn => hr (hi.mp hn)]
    rfl

/-- A larger offset of a tile: its score, its weight and its values. -/
theorem Fetched.strided (h : Fetched Q K B V e q k v) (t : Fin 16) (j : Fin 7) (hj : j ∈ begun t) (r : Fin 128) :
    (if t.val = 1 then stridedHalf e q k v else stridedAt e q k v t j).score (ix2 r 0) < ⊤
      ∧ (∀ (m : FVec Ideal S128x1 .f32) (μ : ℝ), m (ix2 r 0) = (μ : EReal) →
        (if t.val = 1 then stridedHalf e q k v else stridedAt e q k v t j).weight m (ix2 r 0)
          = (weight Q K B μ (rowOf t r) (Fin.natAdd 37 j) : EReal))
      ∧ (far j ≤ (rowOf t r).val → ∀ d, (if t.val = 1 then stridedHalf e q k v else stridedAt e q k v t j).value (ix2 r d)
        = V (back (rowOf t r) (far j)) d) := by
  by_cases ht : t.val = 1
  · obtain ⟨rfl, rfl⟩ := begun_one t j hj ht
    rw [if_pos ht]
    refine ⟨?_, fun m μ hm => ?_, fun hn d => ?_⟩
    · rw [h.half_score]
      exact ite_coe_lt_top _ _
    · rw [← far_weight_eq h]
      refine (select_late_at _ _ r).trans ?_
      rw [← h.half_score, ← hm]
      by_cases hr : 64 ≤ r.val
      · rw [if_pos hr]
        exact weighRows_at _ _ _ r
      · have hn : ¬ far 0 ≤ (rowOf 1 r).val := by
          show ¬ 192 ≤ 128 * 1 + r.val
          omega
        rw [if_neg hr, h.half_score, if_neg hn, hm, EReal.bot_sub, Ideal.exp_bot, zero_mul]
        exact Ideal.ofBits_zero_f32
    · have hr : 64 ≤ r.val := by
        have hn' : 192 ≤ 128 * 1 + r.val := hn
        omega
      refine (rowsTwice_at _ r hr d).trans ?_
      rw [h.v_eq]
      congr 1
      refine Fin.ext ?_
      show 0 + (r.val - 64) = 128 * 1 + r.val - 192
      omega
  · have hf := begun_full t j hj ht
    rw [if_neg ht]
    refine ⟨?_, fun m μ hm => ?_, fun _ d => ?_⟩
    · rw [h.strided_score t j hf]
      exact ite_coe_lt_top _ _
    · rw [← far_weight_eq h, ← h.strided_score t j hf, ← hm]
      exact weighRows_at _ _ _ r
    · refine (rows_at _ r d).trans ?_
      rw [h.v_eq]
      congr 1
      refine Fin.ext ?_
      show 128 * t.val - far j + r.val = 128 * t.val + r.val - far j
      omega

/-- What row `r` of tile `t` needs, when the tile is not the first. -/
theorem Fetched.row_later (h : Fetched Q K B V e q k v) (t : Fin 16) (ht : t.val ≠ 0) (r : Fin 128) :
    RowSpec Q K B V (rowOf t r) r
      (scoreBand (inBand (band (F := Ideal) e)) (tileQueries q t) (window (k 256 (128 * t.val - 128) (by omega))))
      (window (v 256 (128 * t.val - 128) (by omega))) (begun t)
      (fun j => if t.val = 1 then stridedHalf e q k v else stridedAt e q k v t j) where
  score_eq i := by
    have hi := near_le i
    rw [h.window_score t ht, if_pos (h.band_pos r i), if_pos (show near i ≤ (rowOf t r).val by
      show near i ≤ 128 * t.val + r.val
      omega)]
    congr 1
    refine congrArg (dot Q K (rowOf t r)) (Fin.ext ?_)
    show 128 * t.val - 128 + (r.val + 128 - near i) = 128 * t.val + r.val - near i
    omega
  score_lt c := by
    rw [h.window_score t ht]
    exact ite_coe_lt_top _ _
  value_eq i _ d := by
    have hi := near_le i
    rw [window_at, h.v_eq]
    congr 1
    refine Fin.ext ?_
    show 128 * t.val - 128 + (r.val + 128 - near i) = 128 * t.val + r.val - near i
    omega
  nodup := begun_nodup t
  rest j hj := by
    have := begun_rest t j hj
    show 128 * t.val + r.val < far j
    omega
  far_score_lt j hj := (h.strided t j hj r).1
  far_weight j hj := (h.strided t j hj r).2.1
  far_value j hj := (h.strided t j hj r).2.2

/-- What row `r` of the first tile needs. -/
theorem Fetched.row_first (h : Fetched Q K B V e q k v) (t : Fin 16) (ht : t.val = 0) (r : Fin 128) :
    RowSpec Q K B V (rowOf t r) r (scoreBand (inFirstBand (band (F := Ideal) e)) (tileQueries q t) (twice (k 128 0 (by omega))))
      (twice (v 128 0 (by omega))) []
      (fun j => if t.val = 1 then stridedHalf e q k v else stridedAt e q k v t j) where
  score_eq i := by
    have hi := near_le i
    rw [h.first_score t]
    have hc : 128 ≤ (col r i).val ↔ near i ≤ (rowOf t r).val := by
      show 128 ≤ r.val + 128 - near i ↔ near i ≤ 128 * t.val + r.val
      omega
    by_cases hn : near i ≤ (rowOf t r).val
    · rw [if_pos ⟨h.band_pos r i, hc.mpr hn⟩, if_pos hn]
      congr 1
      refine congrArg (dot Q K (rowOf t r)) (Fin.ext ?_)
      show r.val + 128 - near i - 128 = 128 * t.val + r.val - near i
      omega
    · rw [if_neg fun hx => hn (hc.mp hx.2), if_neg hn]
  score_lt c := by
    rw [h.first_score t]
    exact ite_coe_lt_top _ _
  value_eq i hn d := by
    have hi := near_le i
    have hn' : near i ≤ 128 * t.val + r.val := hn
    rw [twice_at _ _ (show 128 ≤ r.val + 128 - near i by omega), h.v_eq]
    congr 1
    refine Fin.ext ?_
    show 0 + (r.val + 128 - near i - 128) = 128 * t.val + r.val - near i
    omega
  nodup := List.nodup_nil
  rest j _ := by
    have hj : 192 ≤ far j := by
      revert j
      decide
    show 128 * t.val + r.val < far j
    omega
  far_score_lt _ hj := absurd hj List.not_mem_nil
  far_weight _ hj := absurd hj List.not_mem_nil
  far_value _ hj := absurd hj List.not_mem_nil

/-- Tile `t` holds the attention of its rows. -/
theorem Fetched.tileAt_eq (h : Fetched Q K B V e q k v) (t : Fin 16) (r : Fin 128) (d : Fin 64) :
    tileAt e q k v t (ix3 0 r d) = attn Q K B V 0 (rowOf t r) d := by
  unfold tileAt
  split
  case isTrue ht => exact (h.row_first t ht r).tile_eq h.e_eq d
  case isFalse ht => exact (h.row_later t ht r).tile_eq h.e_eq d

end

end Cert.Attn

end
-- ==== Proof.Array.lean ====
/- What the array of results holds after the run: the attention of the argument arrays. -/
module

public import proofs.«01_k».proof.Proof.IdealRun
public import proofs.«01_k».proof.Proof.TileAttn
public import Idealize.ShloMosaic.Lib.Pipeline.ValueKit

@[expose] public section

set_option maxRecDepth 16384

noncomputable section

namespace Cert.Attn

open Cert.KernelIdeal Cert.KernelIdeal.Gen Cert.KernelIdeal.Run Idealize.ShloMosaic Idealize.ShloMosaic.TcCoe Idealize.SL.Sem

/-! ## One head's block -/

/-- The block of results of a head, its staged blocks being as `Fetched` says. -/
theorem block_at {Q K : Fin 2048 → Fin 64 → ℝ} {B : Fin 44 → ℝ} {V : Fin 2048 → Fin 64 → EReal} (c : Dev nD) (i : grid0.Coords)
    (a1 : Memref sig .tc .smem S1x1x48 .f32) (h1 : a1.IsWhole) (a2 : Memref sig .tc .vmem S1x1x2048x64 .f32) (h2 : a2.IsWhole)
    (a3 : Memref sig .tc .vmem S1x1x2048x64 .f32) (h3 : a3.IsWhole) (a4 : Memref sig .tc .vmem S1x1x2048x64 .f32) (h4 : a4.IsWhole)
    (a5 : Memref sig .tc .vmem S1x1x2048x64 .f32) (h5 : a5.IsWhole) (x0 : Vec Ideal S1x1x48 .f32) (x1 x2 x3 : Vec Ideal S1x1x2048x64 .f32)
    (h : Fetched Q K B V (word a1 h1 x0) (load a2 h2 x1) (load a3 h3 x2) (load a4 h4 x3)) (y : S1x1x2048x64.Idx) :
    out0_A_4 c i a1 h1 a2 h2 a3 h3 a4 h4 a5 h5 x0 x1 x2 x3 y = attn Q K B V 0 (y 2) (y 3) := by
  unfold out0_A_4
  refine View.read_writes_apply_of_pieces _ _ (fun y : S1x1x2048x64.Idx => attn Q K B V 0 (y 2) (y 3)) _ ?_ y
    (cover0_A_4 c i a1 h1 a2 h2 a3 h3 a4 h4 a5 h5 x0 x1 x2 x3 y)
  rw [stores_eq]
  intro p hp x
  obtain ⟨t, _, rfl⟩ := List.mem_map.mp hp
  refine (Rect.payAlong_consLift _ _ _ _ _ _ x (ix3 0 (x 2) (x 3)) fun a => ?_).trans ?_
  · fin_cases a
    · show 0 = (x 1).val
      have : (x 1).val < 1 := (x 1).isLt
      omega
    · rfl
    · rfl
  · refine (h.tileAt_eq t (x 2) (x 3)).trans ?_
    congr 1
    · refine Fin.ext (Eq.trans ?_ (Rect.emb_apply (tileRect t) x 2).symm)
      show 128 * t.val + (x 2).val = 0 + 128 * t.val + 1 * (x 2).val
      omega
    · refine Fin.ext (Eq.trans ?_ (Rect.emb_apply (tileRect t) x 3).symm)
      show (x 3).val = 0 + 0 + 1 * (x 3).val
      omega

/-! ## The argument arrays -/

/-- Head `h` of an array of queries or keys, as real numbers. -/
def headR (x : S1x16x2048x64.Idx → EReal) (h : Fin 16) (n : Fin 2048) (d : Fin 64) : ℝ := (x (ix4 0 h n d)).toReal

/-- Head `h` of the array of values. -/
def headV (x : S1x16x2048x64.Idx → EReal) (h : Fin 16) (n : Fin 2048) (d : Fin 64) : EReal := x (ix4 0 h n d)

/-- The biases of head `h`, as real numbers. -/
def headB (b : S44x16.Idx → EReal) (h : Fin 16) (i : Fin 44) : ℝ := (b (ix2 i h)).toReal

/-- The attention of the argument arrays, at every index. -/
def attnArr (q k v : S1x16x2048x64.Idx → EReal) (b : S44x16.Idx → EReal) : S1x16x2048x64.Idx → EReal := fun i =>
  attn (headR q (i 1)) (headR k (i 1)) (headB b (i 1)) (headV v (i 1)) 0 (i 2) (i 3)

/-- Every entry is a real number. -/
def AllReal {ι : Type} (x : ι → EReal) : Prop := ∀ i, x i = ((x i).toReal : EReal)

variable (m : (ℓ : Loc nD τ sig) → Buf (Elt Ideal) ℓ)

/-- The row of weights as the host prepares it. -/
theorem V_main_v3 (c : Dev nD) : V m c main_v3
    = broadcastInDim S16x1x48 ![0, 2] bcast_S16x48_S16x1x48_0_2
        (pad S16x48 ![0, 0] ![0, 4] ![0, 0]
          (transpose S16x44 [1, 0] (Host.exp (m ((c : Thread nD τ).loc main_arg3)) : FVec Ideal S44x16 .f32) transposes_S44x16_S16x44_1_0)
          (sitofp .f32 (constantI S_ 32 0#32)) pads_S16x44_S16x48_000_040 h_S_) := by
  rfl

/-- The row of weights of head `h`: entry `i` is the exponential of bias `i`. -/
theorem weights_at (c : Dev nD) (h : Fin 16) (i : Fin 44) :
    V m c main_v3 (ix3 h 0 (Fin.castLE (by omega) i)) = Ideal.exp (m ((c : Thread nD τ).loc main_arg3) (ix2 i h)) := by
  rw [V_main_v3]
  have hi := i.isLt
  pointwise []
  exact dif_pos (show (Fin.castLE (m := 48) (by omega) i).val < 44 from hi)

/-- Grid point `t` stages block `t` of each array. -/
theorem idx0 : ∀ t : Fin cfg0.N, win0_0.index t = ![t.val, 0, 0] := (by decide +kernel : ∀ t : Fin grid0.N, _)
theorem idx1 : ∀ t : Fin cfg0.N, win0_1.index t = ![0, t.val, 0, 0] := (by decide +kernel : ∀ t : Fin grid0.N, _)
theorem idx2 : ∀ t : Fin cfg0.N, win0_2.index t = ![0, t.val, 0, 0] := (by decide +kernel : ∀ t : Fin grid0.N, _)
theorem idx3 : ∀ t : Fin cfg0.N, win0_3.index t = ![0, t.val, 0, 0] := (by decide +kernel : ∀ t : Fin grid0.N, _)
theorem idx4 : ∀ t : Fin cfg0.N, win0_4.index t = ![0, t.val, 0, 0] := (by decide +kernel : ∀ t : Fin grid0.N, _)

/-- The head that point `t` works on. -/
def headOf (t : Fin cfg0.N) : Fin 16 := ⟨t.val, lt_of_lt_of_eq t.isLt N_0⟩

/-- The block of queries at point `t` is that head of the queries … -/
theorem iblk1_at (c : Dev nD) (t : Fin cfg0.N) (n : Fin 2048) (d : Fin 64) :
    iblk m c 1 t (ix4 0 0 n d) = m ((c : Thread nD τ).loc main_arg0) (ix4 0 (headOf t) n d) := by
  refine Eq.trans ?_ (congrFun (V_main_arg0 m c) (ix4 0 (headOf t) n d))
  blk_ext [iblk, idx1 t, headOf]

/-- … the block of keys that of the keys … -/
theorem iblk2_at (c : Dev nD) (t : Fin cfg0.N) (n : Fin 2048) (d : Fin 64) :
    iblk m c 2 t (ix4 0 0 n d) = m ((c : Thread nD τ).loc main_arg1) (ix4 0 (headOf t) n d) := by
  refine Eq.trans ?_ (congrFun (V_main_arg1 m c) (ix4 0 (headOf t) n d))
  blk_ext [iblk, idx2 t, headOf]

/-- … the block of values that of the values … -/
theorem iblk3_at (c : Dev nD) (t : Fin cfg0.N) (n : Fin 2048) (d : Fin 64) :
    iblk m c 3 t (ix4 0 0 n d) = m ((c : Thread nD τ).loc main_arg2) (ix4 0 (headOf t) n d) := by
  refine Eq.trans ?_ (congrFun (V_main_arg2 m c) (ix4 0 (headOf t) n d))
  blk_ext [iblk, idx3 t, headOf]

/-- … and the block of weights its row of weights. -/
theorem iblk0_at (c : Dev nD) (t : Fin cfg0.N) (i : Fin 48) :
    iblk m c 0 t (ix3 0 0 i) = V m c main_v3 (ix3 (headOf t) 0 i) := by
  blk_ext [iblk, idx0 t, headOf]

/-! ## The array of results -/

/-- What the body fetches at point `t`, the queries, keys and biases being real numbers. -/
theorem fetched (c : Dev nD) (t : Fin cfg0.N) (hq : AllReal (m ((c : Thread nD τ).loc main_arg0)))
    (hk : AllReal (m ((c : Thread nD τ).loc main_arg1))) (hb : AllReal (m ((c : Thread nD τ).loc main_arg3))) :
    Fetched (headR (m ((c : Thread nD τ).loc main_arg0)) (headOf t)) (headR (m ((c : Thread nD τ).loc main_arg1)) (headOf t))
      (headB (m ((c : Thread nD τ).loc main_arg3)) (headOf t)) (headV (m ((c : Thread nD τ).loc main_arg2)) (headOf t))
      (word (ms0_0 t) (hs0_0 t) (iblk m c 0 t)) (load (ms0_1 t) (hs0_1 t) (iblk m c 1 t)) (load (ms0_2 t) (hs0_2 t) (iblk m c 2 t))
      (load (ms0_3 t) (hs0_3 t) (iblk m c 3 t)) where
  e_eq i := by
    rw [word_at]
    refine (iblk0_at m c t _).trans ((weights_at m c (headOf t) i).trans ?_)
    rw [hb, Ideal.exp_coe]
    rfl
  q_eq n o h r d := by
    rw [load_at]
    exact (iblk1_at m c t _ d).trans (hq _)
  k_eq n o h r d := by
    rw [load_at]
    exact (iblk2_at m c t _ d).trans (hk _)
  v_eq n o h r d := by
    rw [load_at]
    exact iblk3_at m c t _ d

/-- The array of results ends holding the attention of the argument arrays. -/
theorem final (c : Dev nD) (hq : AllReal (m ((c : Thread nD τ).loc main_arg0)))
    (hk : AllReal (m ((c : Thread nD τ).loc main_arg1))) (hb : AllReal (m ((c : Thread nD τ).loc main_arg3))) :
    (dats m 0 c).arrAt 4 cfg0.N
      = attnArr (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  unfold outsAt0
  refine (block_at c _ _ _ _ _ _ _ _ _ _ _ _ _ _ _ (fetched m c t hq hk hb) y).trans ?_
  have e : (win0_4.blk t).view.emb y = ix4 0 (headOf t) (y 2) (y 3) := by
    blk_ext [idx4 t, headOf]
  rw [e]
  rfl

end Cert.Attn

end
-- ==== Proof.Finite.lean ====
/- What the precondition says: the queries, the keys and the biases are real numbers. -/
module

public import proofs.«01_k».proof.Defs
public import proofs.«01_k».proof.Proof.Array
public import Idealize.ShloMosaic.Lib.ReduceAll
public import Idealize.ShloMosaic.Lib.Affine

@[expose] public section

set_option maxRecDepth 16384

noncomputable section

namespace Cert.Attn

open Cert.Pre_finite_scores Idealize.ShloMosaic Idealize.ShloMosaic.TcCoe Idealize.SL.Sem

/-- The shape relations the precondition's operations take. -/
instance finiteFacts : Cert.Pre_finite_scores.Facts where
  bcast_S_S1x16x2048x64 := by decide
  reducesTo_S1x16x2048x64_S_d0_1_2_3 := by decide
  h_S_ := by decide
  bcast_S_S44x16 := by decide
  reducesTo_S44x16_S_d0_1 := by decide

/-- The pattern of plus infinity. -/
theorem ofBits_inf : Ideal.ofBits .f32 0x7F800000#32 = ⊤ := by
  simp [Ideal.ofBits, Ideal.ieee]

/-- A number whose absolute value is less than infinity is real. -/
theorem real_of_abs_lt {x : EReal} (h : max x (-x) < ⊤) : x = (x.toReal : EReal) := by
  obtain ⟨h1, h2⟩ := max_lt_iff.mp h
  refine (EReal.coe_toReal (ne_of_lt h1) fun hb => ?_).symm
  rw [hb] at h2
  exact absurd h2 (by simp)

/-- A comparison of an array's absolute values with infinity that came out true says an entry is real. -/
theorem real_of_cmp {s : Shape} (x : FVec Ideal s .f32) (b : S_.BroadcastsInDim s (![] : Fin 0 → Fin s.rank)) (i : s.Idx)
    (h : cmpf .olt (Host.absf x) (broadcastInDim s ![] b (constant S_ .f32 0x7F800000#32)) i = 1#1) :
    x i = ((x i).toReal : EReal) := by
  refine real_of_abs_lt ?_
  rw [← ofBits_inf]
  have h' : BitVec.ofBool (decide (max (x i) (-x i) < Ideal.ofBits .f32 0x7F800000#32)) = 1#1 := h
  by_contra hn
  rw [decide_eq_false hn] at h'
  exact absurd h' (by decide)

/-- The precondition: the queries, the keys and the biases are real numbers. -/
theorem allReal (q k v : FVec Ideal S1x16x2048x64 .f32) (b : FVec Ideal S44x16 .f32)
    (h : fn (F := Ideal) q k v b = fun _ => 1#1) : AllReal q ∧ AllReal k ∧ AllReal b := by
  have h0 := congrFun h ix0
  obtain ⟨hqk, hb⟩ := IntOp.andi_eq_one.1 h0
  obtain ⟨hq, hk⟩ := IntOp.andi_eq_one.1 hqk
  haveI : Subsingleton S_.Idx := ⟨fun i j => funext fun a => a.elim0⟩
  exact ⟨fun i => real_of_cmp q _ i (Host.reduce_andi_all _ _ _ _ _ hq i),
    fun i => real_of_cmp k _ i (Host.reduce_andi_all _ _ _ _ _ hk i),
    fun i => real_of_cmp b _ i (Host.reduce_andi_all _ _ _ _ _ hb i)⟩

end Cert.Attn

end
-- ==== Proof.Reference.lean ====
/- The reference's vectors by name, and their entries over the extended reals. -/
module

public import proofs.«01_k».proof.Proof.Gen.ReferenceIdeal.Run
public import proofs.«01_k».proof.Proof.Attention
public import Idealize.ShloMosaic.Lib.Pointwise

@[expose] public section

set_option maxRecDepth 16384

noncomputable section

namespace Cert.Attn

open Cert.ReferenceIdeal Cert.ReferenceIdeal.Gen Idealize.ShloMosaic Idealize.ShloMosaic.TcCoe Idealize.SL.Sem

/-! ## The vectors -/

/-- Row number minus offset. -/
def rel : IVec S44x2048 32 :=
  subi (broadcastInDim S44x2048 ![0, 1] bcast_S1x2048_S44x2048_0_1 (broadcastInDim S1x2048 ![1] bcast_S2048_S1x2048_1 (iotaInDim S2048 32 0)))
    (broadcastInDim S44x2048 ![0, 1] bcast_S44x1_S44x2048_0_1
      (broadcastInDim S44x1 ![0] bcast_S44_S44x1_0 (fun i => lit0 (S44.rowMajor i))))

/-- The same word everywhere. -/
def every (b : BitVec 32) : IVec S44x2048 32 := broadcastInDim S44x2048 ![] bcast_S_S44x2048 (constantI S_ 32 b)

/-- The row looked at, held between the first and the last. -/
def held : IVec S44x2048 32 := minsi (every 2047#32) (maxsi (every 0#32) rel)

/-- The row looked at, as the reference indexes by it. -/
def looked : IVec S44x2048x1 32 :=
  broadcastInDim S44x2048x1 ![0, 1] bcast_S44x2048_S44x2048x1_0_1
    (select (cmpi .slt held (every 0#32)) (addi held (every 2048#32)) held)

/-- The rows looked at. -/
def lookedRows (x : FVec Ideal S1x16x2048x64 .f32) : FVec Ideal S1x16x44x2048x64 .f32 :=
  Host.gather gather_S1x16x2048x64_S44x2048x1_S1x16x44x2048x64_014_2_n_n_2_2_116164 x looked

/-- The scores with the biases, minus infinity where the row looked at does not exist. -/
def scores (q k : FVec Ideal S1x16x2048x64 .f32) (b : FVec Ideal S44x16 .f32) : FVec Ideal S1x16x44x2048 .f32 :=
  select (broadcastInDim S1x16x44x2048 ![0, 1, 2, 3] bcast_S1x1x44x2048_S1x16x44x2048_0_1_2_3
      (broadcastInDim S1x1x44x2048 ![2, 3] bcast_S44x2048_S1x1x44x2048_2_3 (cmpi .sge rel (every 0#32))))
    (addf (mulf (transpose S1x16x44x2048 [0, 1, 3, 2]
            (Host.dotGeneral dot_S1x16x44x2048x64_S1x16x2048x64_S1x16x2048x44_4_3_2_n_013_012 none (lookedRows k) q)
            transposes_S1x16x2048x44_S1x16x44x2048_0_1_3_2)
          (broadcastInDim S1x16x44x2048 ![] bcast_S_S1x16x44x2048 (constant S_ .f32 0x3E000000#32)))
      (broadcastInDim S1x16x44x2048 ![0, 1, 2, 3] bcast_S1x16x44x1_S1x16x44x2048_0_1_2_3
        (broadcastInDim S1x16x44x1 ![1, 2] bcast_S16x44_S1x16x44x1_1_2 (transpose S16x44 [1, 0] b transposes_S44x16_S16x44_1_0))))
    (broadcastInDim S1x16x44x2048 ![] bcast_S_S1x16x44x2048 (id (constant S_ .f32 0xFF800000#32)))

/-- A number per row, at every offset. -/
def perRow (x : FVec Ideal S1x16x2048 .f32) : FVec Ideal S1x16x44x2048 .f32 :=
  broadcastInDim S1x16x44x2048 ![0, 1, 2, 3] bcast_S1x16x1x2048_S1x16x44x2048_0_1_2_3
    (broadcastInDim S1x16x1x2048 ![0, 1, 3] bcast_S1x16x2048_S1x16x1x2048_0_1_3 x)

/-- The largest score of each row. -/
def largest (s : FVec Ideal S1x16x44x2048 .f32) : FVec Ideal S1x16x2048 .f32 :=
  Host.reduce FloatOps.maximumf s (constant S_ .f32 0xFF800000#32) reducesTo_S1x16x44x2048_S1x16x2048_d2 h_S_

/-- The logarithm of each row's sum of exponentials, the numbers `m` taken off and put back. -/
def lse (s : FVec Ideal S1x16x44x2048 .f32) (m : FVec Ideal S1x16x2048 .f32) : FVec Ideal S1x16x2048 .f32 :=
  addf m (Host.log (Host.reduceAdd (Host.exp (subf s (perRow m))) (constant S_ .f32 0x00000000#32)
    reducesTo_S1x16x44x2048_S1x16x2048_d2 h_S_))

/-- The weighted sums of the values. -/
def mixed (s : FVec Ideal S1x16x44x2048 .f32) (l : FVec Ideal S1x16x2048 .f32) (v : FVec Ideal S1x16x2048x64 .f32) :
    FVec Ideal S1x16x2048x64 .f32 :=
  Host.dotGeneral dot_S1x16x44x2048_S1x16x44x2048x64_S1x16x2048x64_2_2_n_4_013_013 none (Host.exp (subf s (perRow l))) (lookedRows v)

/-- The reference's result of its four arguments. -/
def refOut (q k v : FVec Ideal S1x16x2048x64 .f32) (b : FVec Ideal S44x16 .f32) : FVec Ideal S1x16x2048x64 .f32 :=
  mixed (scores q k b) (lse (scores q k b) (largest (scores q k b))) v

/-- What the reference's run leaves is `refOut` of the argument arrays. -/
theorem res_eq (m : (ℓ : Loc nD τ sig) → Buf (Elt Ideal) ℓ) (c : Dev nD) :
    Cert.ReferenceIdeal.Value.res_out0 m c
      = refOut (m ((c.tc : Thread nD τ).loc main_arg0)) (m ((c.tc : Thread nD τ).loc main_arg1)) (m ((c.tc : Thread nD τ).loc main_arg2))
        (m ((c.tc : Thread nD τ).loc main_arg3)) := rfl

/-! ## Words -/

/-- A row number minus an offset, read signed. -/
theorem sub_toInt (n o : ℕ) (hn : n < 2048) (ho : o < 2048) : (BitVec.ofNat 32 n - BitVec.ofNat 32 o).toInt = (n : ℤ) - o := by
  rw [BitVec.toInt_eq_toNat_cond, BitVec.toNat_sub, BitVec.toNat_ofNat, BitVec.toNat_ofNat]
  split <;> omega

/-- The comparison of a word with zero, read signed. -/
theorem sge_zero (x : BitVec 32) : IntOp.cmpi .sge x 0#32 = BitVec.ofBool (decide (0 ≤ x.toInt)) := rfl

/-- The comparison of a word with zero, read signed. -/
theorem slt_zero (x : BitVec 32) : IntOp.cmpi .slt x 0#32 = BitVec.ofBool (decide (x.toInt < 0)) := rfl

/-- A word held between 0 and 2047, read signed. -/
theorem held_toInt (x : BitVec 32) : (IntOp.minsi 2047#32 (IntOp.maxsi 0#32 x)).toInt = min 2047 (max 0 x.toInt) := by
  have h0 : (0#32 : BitVec 32).toInt = 0 := by decide
  have h1 : (2047#32 : BitVec 32).toInt = 2047 := by decide
  unfold IntOp.minsi IntOp.maxsi
  simp only [BitVec.slt, decide_eq_true_eq, h0, h1]
  split <;> split <;> simp only [h0, h1] at * <;> omega

/-- The reference's offsets. -/
theorem lit_eq (i : Fin 44) : lit0 i = BitVec.ofNat 32 (off i) := by
  fin_cases i <;> rfl

/-- The offsets are less than 2048. -/
theorem off_lt (i : Fin 44) : off i < 2048 := by
  revert i
  decide +kernel

/-! ## Entries -/

/-- Row number minus offset. -/
theorem rel_at (i : Fin 44) (n : Fin 2048) : rel (ix2 i n) = BitVec.ofNat 32 n.val - BitVec.ofNat 32 (off i) := by
  pointwise [rel]
  have h : S44.rowMajor (ix1 i) = i := Fin.ext (rowMajor_val1 _)
  rw [h, lit_eq]
  rfl

/-- The row looked at: `n - off i`, or row 0. -/
theorem held_at (i : Fin 44) (n : Fin 2048) : (held (ix2 i n)).toInt = ((back n (off i)).val : ℤ) := by
  have h : held (ix2 i n) = IntOp.minsi 2047#32 (IntOp.maxsi 0#32 (rel (ix2 i n))) := by
    pointwise [held, every]
  rw [h, held_toInt, rel_at, sub_toInt _ _ n.isLt (off_lt i)]
  show _ = ((n.val - off i : ℕ) : ℤ)
  have := n.isLt
  omega

/-- The reference indexes by that row. -/
theorem looked_at (i : Fin 44) (n : Fin 2048) : looked (ix3 i n 0) = held (ix2 i n) := by
  have h : looked (ix3 i n 0) = Scalar.select (IntOp.cmpi .slt (held (ix2 i n)) 0#32) (IntOp.addi (held (ix2 i n)) 2048#32) (held (ix2 i n)) := by
    pointwise [looked, every]
  rw [h, slt_zero, held_at]
  have h' : ¬ ((back n (off i)).val : ℤ) < 0 := by omega
  simp [h', Scalar.select]

/-- Row `n` at offset `i` looks at row `n - off i`, at row 0 where there is none. -/
theorem lookedRows_at (x : FVec Ideal S1x16x2048x64 .f32) (h : Fin 16) (i : Fin 44) (n : Fin 2048) (d : Fin 64) :
    lookedRows x (ix5 0 h i n d) = x (ix4 0 h (back n (off i)) d) := by
  unfold lookedRows Host.gather
  refine congrArg x (funext fun a => Fin.ext ?_)
  set g := gather_S1x16x2048x64_S44x2048x1_S1x16x44x2048x64_014_2_n_n_2_2_116164
  have hi : g.siIdx (ix5 0 h i n d) (0 : Fin 1) = ix3 i n 0 := by
    funext b
    refine Fin.ext ?_
    fin_cases b <;> rfl
  show g.start (ix5 0 h i n d) looked a + g.batchCoord (ix5 0 h i n d) a + g.offCoord (ix5 0 h i n d) a = _
  fin_cases a
  · rfl
  · show 0 + 0 + h.val = h.val
    omega
  · show min (looked (g.siIdx (ix5 0 h i n d) (0 : Fin 1))).toInt.toNat 2047 + 0 + 0 = (back n (off i)).val
    rw [hi, looked_at, held_at]
    have := (back n (off i)).isLt
    omega
  · show 0 + 0 + d.val = d.val
    omega

/-- An offset counts where it reaches a row. -/
theorem valid_at (i : Fin 44) (n : Fin 2048) : cmpi .sge rel (every 0#32) (ix2 i n) = BitVec.ofBool (decide (off i ≤ n.val)) := by
  have h : cmpi .sge rel (every 0#32) (ix2 i n) = IntOp.cmpi .sge (rel (ix2 i n)) 0#32 := by
    pointwise [every]
  rw [h, sge_zero, rel_at, sub_toInt _ _ n.isLt (off_lt i)]
  congr 2
  exact propext (by omega)

/-- A score with its bias. -/
theorem scores_at (q k : FVec Ideal S1x16x2048x64 .f32) (b : FVec Ideal S44x16 .f32) (h : Fin 16) (i : Fin 44) (n : Fin 2048) :
    scores q k b (ix4 0 h i n)
      = if off i ≤ n.val then (∑ d, lookedRows k (ix5 0 h i n d) * q (ix4 0 h n d)) * Ideal.ofBits .f32 0x3E000000#32 + b (ix2 i h)
        else Ideal.ofBits .f32 0xFF800000#32 := by
  pointwise [scores]
  show (if cmpi .sge rel (every 0#32) (ix2 i n) = 1#1 then _ else Ideal.ofBits .f32 0xFF800000#32) = _
  rw [valid_at]
  by_cases hv : off i ≤ n.val <;> simp [hv]

/-- A number per row is the same at every offset. -/
theorem perRow_at (x : FVec Ideal S1x16x2048 .f32) (h : Fin 16) (i : Fin 44) (n : Fin 2048) :
    perRow x (ix4 0 h i n) = x (ix3 0 h n) := by
  pointwise [perRow]

/-- The largest of the 44 scores. -/
theorem largest_at (s : FVec Ideal S1x16x44x2048 .f32) (h : Fin 16) (n : Fin 2048) :
    largest s (ix3 0 h n) = Finset.fold max (Ideal.ofBits .f32 0xFF800000#32) (fun i => s (ix4 0 h i n)) Finset.univ := by
  pointwise [largest]

/-- The logarithm of the sum of 44 exponentials. -/
theorem lse_at (s : FVec Ideal S1x16x44x2048 .f32) (m : FVec Ideal S1x16x2048 .f32) (h : Fin 16) (n : Fin 2048) :
    lse s m (ix3 0 h n) = m (ix3 0 h n) + Ideal.log (∑ i, Ideal.exp (s (ix4 0 h i n) - m (ix3 0 h n))) := by
  pointwise [lse, perRow]

/-- The sum of 44 weighted rows of values. -/
theorem mixed_at (s : FVec Ideal S1x16x44x2048 .f32) (l : FVec Ideal S1x16x2048 .f32) (v : FVec Ideal S1x16x2048x64 .f32)
    (h : Fin 16) (n : Fin 2048) (d : Fin 64) :
    mixed s l v (ix4 0 h n d) = ∑ i, Ideal.exp (s (ix4 0 h i n) - l (ix3 0 h n)) * lookedRows v (ix5 0 h i n d) := by
  pointwise [mixed, perRow]

end Cert.Attn

end
-- ==== Proof.RefAttn.lean ====
/- The reference's result is the attention of the argument arrays. -/
module

public import proofs.«01_k».proof.Proof.Reference
public import proofs.«01_k».proof.Proof.Array

@[expose] public section

set_option maxRecDepth 16384

noncomputable section

namespace Cert.Attn

open Cert.ReferenceIdeal Cert.ReferenceIdeal.Gen Idealize.ShloMosaic Idealize.ShloMosaic.TcCoe Idealize.SL.Sem

variable {q k : FVec Ideal S1x16x2048x64 .f32} {b : FVec Ideal S44x16 .f32}

/-- The product of a query and a key as the reference writes it, the eighth taken after the sum. -/
theorem score_after (Q K : Fin 2048 → Fin 64 → ℝ) (n : Fin 2048) (o : ℕ) :
    (∑ d, (K (back n o) d : EReal) * (Q n d : EReal)) * ((1 / 8 : ℝ) : EReal) = (score Q K n o : EReal) := by
  simp only [← EReal.coe_mul]
  rw [← coe_sum, ← EReal.coe_mul]
  congr 1
  unfold score
  rw [Finset.sum_mul]
  exact Finset.sum_congr rfl fun d _ => by ring

/-- The scores with the biases. -/
theorem scores_eq (hq : AllReal q) (hk : AllReal k) (hb : AllReal b) (h : Fin 16) (i : Fin 44) (n : Fin 2048) :
    scores q k b (ix4 0 h i n) = biased (headR q h) (headR k h) (headB b h) n i := by
  rw [scores_at, ofBits_eighth, ofBits_neg_inf]
  unfold biased
  split
  · rw [EReal.coe_add, ← score_after]
    congr 1
    · congr 1
      refine Finset.sum_congr rfl fun d _ => ?_
      rw [lookedRows_at]
      exact congrArg₂ (· * ·) (hk _) (hq _)
    · exact hb _
  · rfl

/-- A row's largest score is a real number. -/
theorem largest_real (hq : AllReal q) (hk : AllReal k) (hb : AllReal b) (h : Fin 16) (n : Fin 2048) :
    ∃ μ : ℝ, largest (scores q k b) (ix3 0 h n) = (μ : EReal) := by
  rw [largest_at, ofBits_neg_inf]
  simp only [scores_eq hq hk hb]
  refine ⟨_, (EReal.coe_toReal (ne_of_lt ?_) (ne_of_gt ?_)).symm⟩
  · rw [Finset.fold_max_lt]
    refine ⟨bot_lt_top, fun i _ => ?_⟩
    unfold biased
    split
    · exact EReal.coe_lt_top _
    · exact bot_lt_top
  · rw [Finset.lt_fold_max]
    refine Or.inr ⟨0, Finset.mem_univ _, ?_⟩
    unfold biased
    rw [if_pos (show off 0 ≤ n.val from Nat.zero_le _)]
    exact EReal.bot_lt_coe _

/-- The reference's result is the attention. -/
theorem refOut_eq (v : FVec Ideal S1x16x2048x64 .f32) (hq : AllReal q) (hk : AllReal k) (hb : AllReal b) :
    refOut q k v b = attnArr q k v b := by
  funext y
  obtain ⟨h, n, d, rfl⟩ : ∃ h n d, y = ix4 0 h n d := by
    refine ⟨y 1, y 2, y 3, funext fun a => ?_⟩
    fin_cases a
    · exact Subsingleton.elim (α := Fin 1) _ _
    all_goals rfl
  obtain ⟨μ, hμ⟩ := largest_real hq hk hb h n
  unfold refOut
  rw [mixed_at, lse_at, hμ]
  simp only [scores_eq hq hk hb, lookedRows_at]
  exact sum_exp_biased (headR q h) (headR k h) (headB b h) (headV v h) μ n d

end Cert.Attn

end
-- ==== Proof.Algebraic.lean ====
/- The kernel's result and the reference's are the same array. -/
module

public import proofs.«01_k».proof.Proof.Finite
public import proofs.«01_k».proof.Proof.RefAttn

@[expose] public section

set_option maxRecDepth 16384

noncomputable section

namespace Cert.Attn

open Idealize.ShloMosaic Idealize.ShloMosaic.TcCoe Idealize.SL.Sem

/-- Where queries, keys and biases are finite, kernel and reference both run, leave their arguments alone, and leave the
    attention of these arguments as their result. -/
theorem algebraic : Cert.algebraic_KernelIdeal_ReferenceIdeal_pre_finite_scores (hKernelIdeal := Cert.KernelIdeal.Gen.facts)
    (hReferenceIdeal := Cert.ReferenceIdeal.Gen.facts) (hPre_finite_scores := finiteFacts) := by
  intro m g m' g' hpre hagree
  refine ⟨fun c => attnArr (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Run.run_blocks m g)
    obtain ⟨hq, hk, hb⟩ := allReal _ _ _ _ (hpre c)
    exact final m c hq hk hb
  · refine (θ_run Cert.ReferenceIdeal.defs _ _).mono (fun _ h c => ⟨(h c).1.trans ?_, (h c).2⟩) (Cert.ReferenceIdeal.Value.run m' g')
    obtain ⟨hq, hk, hb⟩ := allReal _ _ _ _ (hpre c)
    refine (res_eq m' c).trans ?_
    rw [(hagree c).1, (hagree c).2.1, (hagree c).2.2.1, (hagree c).2.2.2]
    exact refOut_eq _ hq hk hb

end Cert.Attn

end
-- ==== Proof.lean ====
/- The certificate: every run of the kernel and of the reference ends and leaves the arguments alone, and over the extended
   reals the two results are the same array wherever queries, keys and biases are finite. -/
module

public import proofs.«01_k».proof.Defs
public import proofs.«01_k».proof.Proof.KernelRun
public import proofs.«01_k».proof.Proof.IdealRun
public import proofs.«01_k».proof.Proof.Host
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Attn.finiteFacts,
    fun m g _ => Cert.Kernel.Run.frame m g,
    fun m g _ => Cert.KernelIdeal.Run.frame m g,
    fun m g _ => Cert.KernelIdeal.Run.frame m g,
    fun m g _ => Cert.Attn.reference_frame m g,
    fun m g _ => Cert.Attn.reference_frame m g,
    IdealRules.named_const.statement Cert.KernelIdeal.κ "mask" .f32 0xF149F2CA#32 ⊥ rfl,
    Cert.Attn.algebraic⟩

end Cert.Proof

end
